-- ==== Defs.lean ====
def Pre_Kernel [hPre_sorted_segments : Cert.Pre_sorted_segments.Facts] (m : (ℓ : Loc Cert.Kernel.nD Cert.Kernel.τ Cert.Kernel.sig) → Buf (Elt Bits) ℓ) : Prop :=
  ∀ c : Dev Cert.Kernel.nD,
    (Cert.Pre_sorted_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sorted_segments : Cert.Pre_sorted_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_segments : Cert.Pre_sorted_segments.Facts),
    quiescent_Kernel (hKernel := hKernel) (hPre_sorted_segments := hPre_sorted_segments)
    ∧ quiescent_KernelIdeal (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal (hKernelIdeal := hKernelIdeal) (hReferenceIdeal := hReferenceIdeal) (hPre_sorted_segments := hPre_sorted_segments)
-- ==== Pre_sorted_segments.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_1 : S100000.Slices ![1] S99999
  slices_S100000_S99999_0 : S100000.Slices ![0] S99999
  reducesTo_S99999_S_d0 : S99999.ReducesTo [0] S_

variable [Facts]

def fn {F : FTy → Type} [FloatOps F] (main_arg0 : FVec F S100000x512 .f32) (main_arg1 : IVec S100000 32) (main_arg2 : FVec F S512x512 .f32) (main_arg3 : FVec F S512 .f32) (main_arg4 : FVec F S512x512 .f32) (main_arg5 : FVec F S512 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 256#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![1] · slices_S100000_S99999_1) main_arg1
  let main_v8 : IVec S99999 32 := (extractStridedSlice S99999 ![0] · slices_S100000_S99999_0) main_arg1
  let main_v9 : IVec S99999 1 := cmpi .sge main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S_ : Shape := ⟨0, ![]⟩
abbrev S352x512 : Shape := ⟨2, ![352, 512]⟩
abbrev S100352x512 : Shape := ⟨2, ![100352, 512]⟩
abbrev S352 : Shape := ⟨1, ![352]⟩
abbrev S100352 : Shape := ⟨1, ![100352]⟩
abbrev S100352x1 : Shape := ⟨2, ![100352, 1]⟩
abbrev S100352x8 : Shape := ⟨2, ![100352, 8]⟩
abbrev S1x512 : Shape := ⟨2, ![1, 512]⟩
abbrev S264x512 : Shape := ⟨2, ![264, 512]⟩
abbrev S264x128 : Shape := ⟨2, ![264, 128]⟩
abbrev S1024x512 : Shape := ⟨2, ![1024, 512]⟩
abbrev S1024x8 : Shape := ⟨2, ![1024, 8]⟩
abbrev S1024x1 : Shape := ⟨2, ![1024, 1]⟩
abbrev S1024x256 : Shape := ⟨2, ![1024, 256]⟩
abbrev S1024x128 : Shape := ⟨2, ![1024, 128]⟩
abbrev S1024x640 : Shape := ⟨2, ![1024, 640]⟩
abbrev S256x640 : Shape := ⟨2, ![256, 640]⟩
abbrev S256x512 : Shape := ⟨2, ![256, 512]⟩
abbrev S256x128 : Shape := ⟨2, ![256, 128]⟩
abbrev S256x1 : Shape := ⟨2, ![256, 1]⟩
abbrev S1x1 : Shape := ⟨2, ![1, 1]⟩
abbrev S264x1 : Shape := ⟨2, ![264, 1]⟩
abbrev S256x1024 : Shape := ⟨2, ![256, 1024]⟩

abbrev nBuf : Space → Nat
  | .hbm => 24
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S_, .f32⟩
  | .hbm, ⟨7, _⟩ => ⟨S352x512, .f32⟩
  | .hbm, ⟨8, _⟩ => ⟨S100352x512, .f32⟩
  | .hbm, ⟨9, _⟩ => ⟨S_, .i32⟩
  | .hbm, ⟨10, _⟩ => ⟨S352, .i32⟩
  | .hbm, ⟨11, _⟩ => ⟨S100352, .i32⟩
  | .hbm, ⟨12, _⟩ => ⟨S100352x1, .i32⟩
  | .hbm, ⟨13, _⟩ => ⟨S100352x8, .i32⟩
  | .hbm, ⟨14, _⟩ => ⟨S512x512, .f32⟩
  | .hbm, ⟨15, _⟩ => ⟨S1x512, .f32⟩
  | .hbm, ⟨16, _⟩ => ⟨S512x512, .f32⟩
  | .hbm, ⟨17, _⟩ => ⟨S1x512, .f32⟩
  | .hbm, ⟨18, _⟩ => ⟨S264x512, .f32⟩
  | .hbm, ⟨19, _⟩ => ⟨S264x512, .f32⟩
  | .hbm, ⟨20, _⟩ => ⟨S264x128, .f32⟩
  | .hbm, ⟨21, _⟩ => ⟨S256x512, .f32⟩
  | .hbm, ⟨22, _⟩ => ⟨S256x512, .f32⟩
  | .hbm, ⟨23, _⟩ => ⟨S256x1024, .f32⟩
  | .local _ .vmem, ⟨0, _⟩ => ⟨S1024x512, .f32⟩
  | .local _ .vmem, ⟨1, _⟩ => ⟨S1024x512, .f32⟩
  | .local _ .vmem, ⟨2, _⟩ => ⟨S1024x8, .i32⟩
  | .local _ .vmem, ⟨3, _⟩ => ⟨S1024x8, .i32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S264x512, .f32⟩
  | .local _ .vmem, ⟨9, _⟩ => ⟨S264x512, .f32⟩
  | .local _ .vmem, ⟨10, _⟩ => ⟨S264x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![98], ![false]⟩

@[reducible] def k0_t1_loop (v47 : BitVec 32) (v49 : BitVec 32) : Scf.Loop 32 :=
  let c1_i32 : BitVec 32 := 1#32
  let v50 : BitVec 32 := Scalar.addi v49 c1_i32
  let v51 : BitVec 32 := Scalar.subi v50 v47
  let c1_i32_25 : BitVec 32 := 1#32
  let v53 : BitVec 32 := Scalar.divsi v51 c1_i32_25
  let v54 : BitVec 32 := Scalar.muli v53 c1_i32_25
  let v55 : BitVec 32 := Scalar.addi v47 v54
  let c1_i32_26 : BitVec 32 := 1#32
  ⟨v47, v55, c1_i32_26⟩

def k0_off1 (v47 : BitVec 32) (v49 : BitVec 32) (k0_t1 : Fin (k0_t1_loop v47 v49).trips) : Fin 2 → Nat :=
  let c1_i32_26 : BitVec 32 := 1#32
  let arg10 : BitVec 32 := Scf.iv v47 c1_i32_26 k0_t1
  let v103 : Index := Scalar.indexCast arg10
  let c0_46 : Index := 0#32
  ![v103.toNat, 0]
@[reducible] def k0_t2_loop (v47 : BitVec 32) (v49 : BitVec 32) : Scf.Loop 32 :=
  let c1_i32 : BitVec 32 := 1#32
  let v50 : BitVec 32 := Scalar.addi v49 c1_i32
  let v51 : BitVec 32 := Scalar.subi v50 v47
  let c1_i32_25 : BitVec 32 := 1#32
  let v53 : BitVec 32 := Scalar.divsi v51 c1_i32_25
  let v54 : BitVec 32 := Scalar.muli v53 c1_i32_25
  let v55 : BitVec 32 := Scalar.addi v47 v54
  let v52 : BitVec 32 := Scalar.addi v47 v51
  let c1_i32_27 : BitVec 32 := 1#32
  ⟨v55, v52, c1_i32_27⟩
def k0_off2 (v47 : BitVec 32) (v49 : BitVec 32) (k0_t2 : Fin (k0_t2_loop v47 v49).trips) : Fin 2 → Nat :=
  let c1_i32 : BitVec 32 := 1#32
  let v50 : BitVec 32 := Scalar.addi v49 c1_i32
  let v51 : BitVec 32 := Scalar.subi v50 v47
  let c1_i32_25 : BitVec 32 := 1#32
  let v53 : BitVec 32 := Scalar.divsi v51 c1_i32_25
  let v54 : BitVec 32 := Scalar.muli v53 c1_i32_25
  let v55 : BitVec 32 := Scalar.addi v47 v54
  let c1_i32_27 : BitVec 32 := 1#32
  let arg10 : BitVec 32 := Scf.iv v55 c1_i32_27 k0_t2
  let v103 : Index := Scalar.indexCast arg10
  let c0_46 : Index := 0#32
  ![v103.toNat, 0]

def k0_chk1 (v47 : BitVec 32) (v49 : BitVec 32) : Prop :=
  ((k0_t1_loop v47 v49).OK) ∧
  (∀ k0_t1 : Fin (k0_t1_loop v47 v49).trips, ∀ a, (k0_off1 v47 v49 k0_t1) a + S1x512.size a ≤ S264x512.size a) ∧
  ((k0_t2_loop v47 v49).OK) ∧
  (∀ k0_t2 : Fin (k0_t2_loop v47 v49).trips, ∀ a, (k0_off2 v47 v49 k0_t2) a + S1x512.size a ≤ S264x512.size a)
theorem k0_t1_ok : ∀ (v47 : BitVec 32) (v49 : BitVec 32) (k0_hw1 : k0_chk1 v47 v49), (k0_t1_loop v47 v49).OK := fun v47 v49 k0_hw1 => k0_hw1.1
theorem k0_off1_inb : ∀ (v47 : BitVec 32) (v49 : BitVec 32) (k0_hw1 : k0_chk1 v47 v49) (k0_t1 : Fin (k0_t1_loop v47 v49).trips), ∀ a, (k0_off1 v47 v49 k0_t1) a + S1x512.size a ≤ S264x512.size a := fun v47 v49 k0_hw1 k0_t1 => k0_hw1.2.1 k0_t1
theorem k0_t2_ok : ∀ (v47 : BitVec 32) (v49 : BitVec 32) (k0_hw1 : k0_chk1 v47 v49), (k0_t2_loop v47 v49).OK := fun v47 v49 k0_hw1 => k0_hw1.2.2.1
theorem k0_off2_inb : ∀ (v47 : BitVec 32) (v49 : BitVec 32) (k0_hw1 : k0_chk1 v47 v49) (k0_t2 : Fin (k0_t2_loop v47 v49).trips), ∀ a, (k0_off2 v47 v49 k0_t2) a + S1x512.size a ≤ S264x512.size a := fun v47 v49 k0_hw1 k0_t2 => k0_hw1.2.2.2 k0_t2

@[reducible] def k0_t3_loop (v59 : BitVec 32) (v61 : BitVec 32) : Scf.Loop 32 :=
  let c1_i32_28 : BitVec 32 := 1#32
  let v62 : BitVec 32 := Scalar.addi v61 c1_i32_28
  let v63 : BitVec 32 := Scalar.subi v62 v59
  let c1_i32_30 : BitVec 32 := 1#32
  let v65 : BitVec 32 := Scalar.divsi v63 c1_i32_30
  let v66 : BitVec 32 := Scalar.muli v65 c1_i32_30
  let v67 : BitVec 32 := Scalar.addi v59 v66
  let c1_i32_31 : BitVec 32 := 1#32
  ⟨v59, v67, c1_i32_31⟩

def k0_off3 (v59 : BitVec 32) (v61 : BitVec 32) (k0_t3 : Fin (k0_t3_loop v59 v61).trips) : Fin 2 → Nat :=
  let c1_i32_31 : BitVec 32 := 1#32
  let arg10 : BitVec 32 := Scf.iv v59 c1_i32_31 k0_t3
  let v103 : Index := Scalar.indexCast arg10
  let c0_46 : Index := 0#32
  ![v103.toNat, 0]
@[reducible] def k0_t4_loop (v59 : BitVec 32) (v61 : BitVec 32) : Scf.Loop 32 :=
  let c1_i32_28 : BitVec 32 := 1#32
  let v62 : BitVec 32 := Scalar.addi v61 c1_i32_28
  let v63 : BitVec 32 := Scalar.subi v62 v59
  let c1_i32_30 : BitVec 32 := 1#32
  let v65 : BitVec 32 := Scalar.divsi v63 c1_i32_30
  let v66 : BitVec 32 := Scalar.muli v65 c1_i32_30
  let v67 : BitVec 32 := Scalar.addi v59 v66
  let v64 : BitVec 32 := Scalar.addi v59 v63
  let c1_i32_32 : BitVec 32 := 1#32
  ⟨v67, v64, c1_i32_32⟩
def k0_off4 (v59 : BitVec 32) (v61 : BitVec 32) (k0_t4 : Fin (k0_t4_loop v59 v61).trips) : Fin 2 → Nat :=
  let c1_i32_28 : BitVec 32 := 1#32
  let v62 : BitVec 32 := Scalar.addi v61 c1_i32_28
  let v63 : BitVec 32 := Scalar.subi v62 v59
  let c1_i32_30 : BitVec 32 := 1#32
  let v65 : BitVec 32 := Scalar.divsi v63 c1_i32_30
  let v66 : BitVec 32 := Scalar.muli v65 c1_i32_30
  let v67 : BitVec 32 := Scalar.addi v59 v66
  let c1_i32_32 : BitVec 32 := 1#32
  let arg10 : BitVec 32 := Scf.iv v67 c1_i32_32 k0_t4
  let v103 : Index := Scalar.indexCast arg10
  let c0_46 : Index := 0#32
  ![v103.toNat, 0]

def k0_chk2 (v59 : BitVec 32) (v61 : BitVec 32) : Prop :=
  ((k0_t3_loop v59 v61).OK) ∧
  (∀ k0_t3 : Fin (k0_t3_loop v59 v61).trips, ∀ a, (k0_off3 v59 v61 k0_t3) a + S1x512.size a ≤ S264x512.size a) ∧
  ((k0_t4_loop v59 v61).OK) ∧
  (∀ k0_t4 : Fin (k0_t4_loop v59 v61).trips, ∀ a, (k0_off4 v59 v61 k0_t4) a + S1x512.size a ≤ S264x512.size a)
theorem k0_t3_ok : ∀ (v59 : BitVec 32) (v61 : BitVec 32) (k0_hw2 : k0_chk2 v59 v61), (k0_t3_loop v59 v61).OK := fun v59 v61 k0_hw2 => k0_hw2.1
theorem k0_off3_inb : ∀ (v59 : BitVec 32) (v61 : BitVec 32) (k0_hw2 : k0_chk2 v59 v61) (k0_t3 : Fin (k0_t3_loop v59 v61).trips), ∀ a, (k0_off3 v59 v61 k0_t3) a + S1x512.size a ≤ S264x512.size a := fun v59 v61 k0_hw2 k0_t3 => k0_hw2.2.1 k0_t3
theorem k0_t4_ok : ∀ (v59 : BitVec 32) (v61 : BitVec 32) (k0_hw2 : k0_chk2 v59 v61), (k0_t4_loop v59 v61).OK := fun v59 v61 k0_hw2 => k0_hw2.2.2.1
theorem k0_off4_inb : ∀ (v59 : BitVec 32) (v61 : BitVec 32) (k0_hw2 : k0_chk2 v59 v61) (k0_t4 : Fin (k0_t4_loop v59 v61).trips), ∀ a, (k0_off4 v59 v61 k0_t4) a + S1x512.size a ≤ S264x512.size a := fun v59 v61 k0_hw2 k0_t4 => k0_hw2.2.2.2 k0_t4

@[reducible] def k0_t5_loop (v71 : BitVec 32) (v73 : BitVec 32) : Scf.Loop 32 :=
  let c1_i32_33 : BitVec 32 := 1#32
  let v74 : BitVec 32 := Scalar.addi v73 c1_i32_33
  let v75 : BitVec 32 := Scalar.subi v74 v71
  let c1_i32_35 : BitVec 32 := 1#32
  let v77 : BitVec 32 := Scalar.divsi v75 c1_i32_35
  let v78 : BitVec 32 := Scalar.muli v77 c1_i32_35
  let v79 : BitVec 32 := Scalar.addi v71 v78
  let c1_i32_36 : BitVec 32 := 1#32
  ⟨v71, v79, c1_i32_36⟩

def k0_off5 (v71 : BitVec 32) (v73 : BitVec 32) (k0_t5 : Fin (k0_t5_loop v71 v73).trips) : Fin 2 → Nat :=
  let c1_i32_36 : BitVec 32 := 1#32
  let arg10 : BitVec 32 := Scf.iv v71 c1_i32_36 k0_t5
  let v103 : Index := Scalar.indexCast arg10
  let c0_46 : Index := 0#32
  ![v103.toNat, 0]
@[reducible] def k0_t6_loop (v71 : BitVec 32) (v73 : BitVec 32) : Scf.Loop 32 :=
  let c1_i32_33 : BitVec 32 := 1#32
  let v74 : BitVec 32 := Scalar.addi v73 c1_i32_33
  let v75 : BitVec 32 := Scalar.subi v74 v71
  let c1_i32_35 : BitVec 32 := 1#32
  let v77 : BitVec 32 := Scalar.divsi v75 c1_i32_35
  let v78 : BitVec 32 := Scalar.muli v77 c1_i32_35
  let v79 : BitVec 32 := Scalar.addi v71 v78
  let v76 : BitVec 32 := Scalar.addi v71 v75
  let c1_i32_37 : BitVec 32 := 1#32
  ⟨v79, v76, c1_i32_37⟩
def k0_off6 (v71 : BitVec 32) (v73 : BitVec 32) (k0_t6 : Fin (k0_t6_loop v71 v73).trips) : Fin 2 → Nat :=
  let c1_i32_33 : BitVec 32 := 1#32
  let v74 : BitVec 32 := Scalar.addi v73 c1_i32_33
  let v75 : BitVec 32 := Scalar.subi v74 v71
  let c1_i32_35 : BitVec 32 := 1#32
  let v77 : BitVec 32 := Scalar.divsi v75 c1_i32_35
  let v78 : BitVec 32 := Scalar.muli v77 c1_i32_35
  let v79 : BitVec 32 := Scalar.addi v71 v78
  let c1_i32_37 : BitVec 32 := 1#32
  let arg10 : BitVec 32 := Scf.iv v79 c1_i32_37 k0_t6
  let v103 : Index := Scalar.indexCast arg10
  let c0_46 : Index := 0#32
  ![v103.toNat, 0]

def k0_chk3 (v71 : BitVec 32) (v73 : BitVec 32) : Prop :=
  ((k0_t5_loop v71 v73).OK) ∧
  (∀ k0_t5 : Fin (k0_t5_loop v71 v73).trips, ∀ a, (k0_off5 v71 v73 k0_t5) a + S1x512.size a ≤ S264x512.size a) ∧
  ((k0_t6_loop v71 v73).OK) ∧
  (∀ k0_t6 : Fin (k0_t6_loop v71 v73).trips, ∀ a, (k0_off6 v71 v73 k0_t6) a + S1x512.size a ≤ S264x512.size a)
theorem k0_t5_ok : ∀ (v71 : BitVec 32) (v73 : BitVec 32) (k0_hw3 : k0_chk3 v71 v73), (k0_t5_loop v71 v73).OK := fun v71 v73 k0_hw3 => k0_hw3.1
theorem k0_off5_inb : ∀ (v71 : BitVec 32) (v73 : BitVec 32) (k0_hw3 : k0_chk3 v71 v73) (k0_t5 : Fin (k0_t5_loop v71 v73).trips), ∀ a, (k0_off5 v71 v73 k0_t5) a + S1x512.size a ≤ S264x512.size a := fun v71 v73 k0_hw3 k0_t5 => k0_hw3.2.1 k0_t5
theorem k0_t6_ok : ∀ (v71 : BitVec 32) (v73 : BitVec 32) (k0_hw3 : k0_chk3 v71 v73), (k0_t6_loop v71 v73).OK := fun v71 v73 k0_hw3 => k0_hw3.2.2.1
theorem k0_off6_inb : ∀ (v71 : BitVec 32) (v73 : BitVec 32) (k0_hw3 : k0_chk3 v71 v73) (k0_t6 : Fin (k0_t6_loop v71 v73).trips), ∀ a, (k0_off6 v71 v73 k0_t6) a + S1x512.size a ≤ S264x512.size a := fun v71 v73 k0_hw3 k0_t6 => k0_hw3.2.2.2 k0_t6

@[reducible] def k0_t7_loop (v83 : BitVec 32) (v85 : BitVec 32) : Scf.Loop 32 :=
  let c1_i32_38 : BitVec 32 := 1#32
  let v86 : BitVec 32 := Scalar.addi v85 c1_i32_38
  let v87 : BitVec 32 := Scalar.subi v86 v83
  let c1_i32_40 : BitVec 32 := 1#32
  let v89 : BitVec 32 := Scalar.divsi v87 c1_i32_40
  let v90 : BitVec 32 := Scalar.muli v89 c1_i32_40
  let v91 : BitVec 32 := Scalar.addi v83 v90
  let c1_i32_41 : BitVec 32 := 1#32
  ⟨v83, v91, c1_i32_41⟩

def k0_off7 (v83 : BitVec 32) (v85 : BitVec 32) (k0_t7 : Fin (k0_t7_loop v83 v85).trips) : Fin 2 → Nat :=
  let c1_i32_41 : BitVec 32 := 1#32
  let arg10 : BitVec 32 := Scf.iv v83 c1_i32_41 k0_t7
  let v103 : Index := Scalar.indexCast arg10
  let c0_46 : Index := 0#32
  ![v103.toNat, 0]
@[reducible] def k0_t8_loop (v83 : BitVec 32) (v85 : BitVec 32) : Scf.Loop 32 :=
  let c1_i32_38 : BitVec 32 := 1#32
  let v86 : BitVec 32 := Scalar.addi v85 c1_i32_38
  let v87 : BitVec 32 := Scalar.subi v86 v83
  let c1_i32_40 : BitVec 32 := 1#32
  let v89 : BitVec 32 := Scalar.divsi v87 c1_i32_40
  let v90 : BitVec 32 := Scalar.muli v89 c1_i32_40
  let v91 : BitVec 32 := Scalar.addi v83 v90
  let v88 : BitVec 32 := Scalar.addi v83 v87
  let c1_i32_42 : BitVec 32 := 1#32
  ⟨v91, v88, c1_i32_42⟩
def k0_off8 (v83 : BitVec 32) (v85 : BitVec 32) (k0_t8 : Fin (k0_t8_loop v83 v85).trips) : Fin 2 → Nat :=
  let c1_i32_38 : BitVec 32 := 1#32
  let v86 : BitVec 32 := Scalar.addi v85 c1_i32_38
  let v87 : BitVec 32 := Scalar.subi v86 v83
  let c1_i32_40 : BitVec 32 := 1#32
  let v89 : BitVec 32 := Scalar.divsi v87 c1_i32_40
  let v90 : BitVec 32 := Scalar.muli v89 c1_i32_40
  let v91 : BitVec 32 := Scalar.addi v83 v90
  let c1_i32_42 : BitVec 32 := 1#32
  let arg10 : BitVec 32 := Scf.iv v91 c1_i32_42 k0_t8
  let v103 : Index := Scalar.indexCast arg10
  let c0_46 : Index := 0#32
  ![v103.toNat, 0]

def k0_chk4 (v83 : BitVec 32) (v85 : BitVec 32) : Prop :=
  ((k0_t7_loop v83 v85).OK) ∧
  (∀ k0_t7 : Fin (k0_t7_loop v83 v85).trips, ∀ a, (k0_off7 v83 v85 k0_t7) a + S1x512.size a ≤ S264x512.size a) ∧
  ((k0_t8_loop v83 v85).OK) ∧
  (∀ k0_t8 : Fin (k0_t8_loop v83 v85).trips, ∀ a, (k0_off8 v83 v85 k0_t8) a + S1x512.size a ≤ S264x512.size a)
theorem k0_t7_ok : ∀ (v83 : BitVec 32) (v85 : BitVec 32) (k0_hw4 : k0_chk4 v83 v85), (k0_t7_loop v83 v85).OK := fun v83 v85 k0_hw4 => k0_hw4.1
theorem k0_off7_inb : ∀ (v83 : BitVec 32) (v85 : BitVec 32) (k0_hw4 : k0_chk4 v83 v85) (k0_t7 : Fin (k0_t7_loop v83 v85).trips), ∀ a, (k0_off7 v83 v85 k0_t7) a + S1x512.size a ≤ S264x512.size a := fun v83 v85 k0_hw4 k0_t7 => k0_hw4.2.1 k0_t7
theorem k0_t8_ok : ∀ (v83 : BitVec 32) (v85 : BitVec 32) (k0_hw4 : k0_chk4 v83 v85), (k0_t8_loop v83 v85).OK := fun v83 v85 k0_hw4 => k0_hw4.2.2.1
theorem k0_off8_inb : ∀ (v83 : BitVec 32) (v85 : BitVec 32) (k0_hw4 : k0_chk4 v83 v85) (k0_t8 : Fin (k0_t8_loop v83 v85).trips), ∀ a, (k0_off8 v83 v85 k0_t8) a + S1x512.size a ≤ S264x512.size a := fun v83 v85 k0_hw4 k0_t8 => k0_hw4.2.2.2 k0_t8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S264x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S264x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S264x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1x512 : Shape := ⟨2, ![1, 512]⟩
abbrev S_ : Shape := ⟨0, ![]⟩
abbrev S100000x1 : Shape := ⟨2, ![100000, 1]⟩
abbrev S256 : Shape := ⟨1, ![256]⟩
abbrev S1x256 : Shape := ⟨2, ![1, 256]⟩
abbrev S100000x256 : Shape := ⟨2, ![100000, 256]⟩
abbrev S100000x256x1 : Shape := ⟨3, ![100000, 256, 1]⟩
abbrev S100000x1x512 : Shape := ⟨3, ![100000, 1, 512]⟩
abbrev S100000x256x512 : Shape := ⟨3, ![100000, 256, 512]⟩
abbrev S256x512 : Shape := ⟨2, ![256, 512]⟩
abbrev S256x1 : Shape := ⟨2, ![256, 1]⟩
abbrev S256x1024 : Shape := ⟨2, ![256, 1024]⟩

abbrev nBuf : Space → Nat
  | .hbm => 60
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S100000x512, .f32⟩
  | .hbm, ⟨8, _⟩ => ⟨S1x512, .f32⟩
  | .hbm, ⟨9, _⟩ => ⟨S100000x512, .f32⟩
  | .hbm, ⟨10, _⟩ => ⟨S100000x512, .f32⟩
  | .hbm, ⟨11, _⟩ => ⟨S_, .f32⟩
  | .hbm, ⟨12, _⟩ => ⟨S100000x512, .f32⟩
  | .hbm, ⟨13, _⟩ => ⟨S100000x512, .f32⟩
  | .hbm, ⟨14, _⟩ => ⟨S512x512, .f32⟩
  | .hbm, ⟨15, _⟩ => ⟨S100000x512, .f32⟩
  | .hbm, ⟨16, _⟩ => ⟨S1x512, .f32⟩
  | .hbm, ⟨17, _⟩ => ⟨S100000x512, .f32⟩
  | .hbm, ⟨18, _⟩ => ⟨S100000x512, .f32⟩
  | .hbm, ⟨19, _⟩ => ⟨S100000x512, .f32⟩
  | .hbm, ⟨20, _⟩ => ⟨S100000x512, .f32⟩
  | .hbm, ⟨21, _⟩ => ⟨S_, .f32⟩
  | .hbm, ⟨22, _⟩ => ⟨S100000x512, .f32⟩
  | .hbm, ⟨23, _⟩ => ⟨S100000x512, .f32⟩
  | .hbm, ⟨24, _⟩ => ⟨S_, .f32⟩
  | .hbm, ⟨25, _⟩ => ⟨S100000x512, .f32⟩
  | .hbm, ⟨26, _⟩ => ⟨S100000x512, .f32⟩
  | .hbm, ⟨27, _⟩ => ⟨S100000x512, .f32⟩
  | .hbm, ⟨28, _⟩ => ⟨S100000x1, .i32⟩
  | .hbm, ⟨29, _⟩ => ⟨S256, .i32⟩
  | .hbm, ⟨30, _⟩ => ⟨S1x256, .i32⟩
  | .hbm, ⟨31, _⟩ => ⟨S100000x256, .i32⟩
  | .hbm, ⟨32, _⟩ => ⟨S100000x256, .i32⟩
  | .hbm, ⟨33, _⟩ => ⟨S100000x256, .i1⟩
  | .hbm, ⟨34, _⟩ => ⟨S100000x256x1, .i1⟩
  | .hbm, ⟨35, _⟩ => ⟨S100000x1x512, .f32⟩
  | .hbm, ⟨36, _⟩ => ⟨S_, .f32⟩
  | .hbm, ⟨37, _⟩ => ⟨S_, .f32⟩
  | .hbm, ⟨38, _⟩ => ⟨S100000x256x512, .i1⟩
  | .hbm, ⟨39, _⟩ => ⟨S100000x256x512, .f32⟩
  | .hbm, ⟨40, _⟩ => ⟨S100000x256x512, .f32⟩
  | .hbm, ⟨41, _⟩ => ⟨S100000x256x512, .f32⟩
  | .hbm, ⟨42, _⟩ => ⟨S_, .f32⟩
  | .hbm, ⟨43, _⟩ => ⟨S256x512, .f32⟩
  | .hbm, ⟨44, _⟩ => ⟨S_, .f32⟩
  | .hbm, ⟨45, _⟩ => ⟨S256x512, .f32⟩
  | .hbm, ⟨46, _⟩ => ⟨S100000x1, .i32⟩
  | .hbm, ⟨47, _⟩ => ⟨S256x512, .f32⟩
  | .hbm, ⟨48, _⟩ => ⟨S_, .f32⟩
  | .hbm, ⟨49, _⟩ => ⟨S100000x1, .f32⟩
  | .hbm, ⟨50, _⟩ => ⟨S_, .f32⟩
  | .hbm, ⟨51, _⟩ => ⟨S256x1, .f32⟩
  | .hbm, ⟨52, _⟩ => ⟨S100000x1, .i32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S256x512, .f32⟩
  | .hbm, ⟨58, _⟩ => ⟨S256x512, .f32⟩
  | .hbm, ⟨59, _⟩ => ⟨S256x1024, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Proof.Words.lean ====
/- The loop over the segment numbers that one chunk of rows can meet: from the word `lo` of the chunk's first row to
   the word `hi` of its last row, inclusive. Facts about the loop's bounds, for words `0 ≤ lo ≤ hi ≤ 256`. -/
module

public import Idealize.ShloMosaic.Lib.LoopRemainder
public import Idealize.ShloMosaic.Lib.ReduceAll
public import Idealize.ShloMosaic.Lib.ValueIdx
public import Idealize.ShloMosaic.Lib.Pointwise

@[expose] public section

namespace Cert.Words

open Idealize.ShloMosaic

/-- The upper bound of the loop from `lo` to `hi` inclusive, as the kernel computes it. -/
@[reducible] def upper (lo hi : BitVec 32) : BitVec 32 :=
  Scalar.addi lo (Scalar.muli (Scalar.divsi (Scalar.subi (Scalar.addi hi 1#32) lo) 1#32) 1#32)

/-- The computed upper bound is the word after `hi`. -/
theorem upper_eq (lo hi : BitVec 32) : upper lo hi = hi + 1#32 := by
  unfold upper
  rw [Scalar.muli_divsi_one]
  simp only [Scalar.addi, Scalar.subi, IntOp.addi, IntOp.subi]
  rw [BitVec.add_comm, BitVec.sub_add_cancel]

/-- A word of at most 256 reads signed as its natural value. -/
theorem toInt_small (x : BitVec 32) (h : x.toNat ≤ 257) : x.toInt = (x.toNat : Int) :=
  BitVec.toInt_eq_toNat_of_lt (by omega)

/-- One past a word of at most 256. -/
theorem toNat_succ (x : BitVec 32) (h : x.toNat ≤ 256) : (x + 1#32).toNat = x.toNat + 1 := by
  rw [BitVec.toNat_add]; simp only [BitVec.toNat_ofNat]; omega

/-- The loop's trip count: one trip for each segment number from `lo` to `hi`. -/
theorem trips_eq (lo hi : BitVec 32) (h : lo.toNat ≤ hi.toNat) (h256 : hi.toNat ≤ 256) :
    Scf.trips lo (upper lo hi) 1#32 = hi.toNat + 1 - lo.toNat := by
  have hs := toNat_succ hi h256
  have h1 : (1#32 : BitVec 32).toInt = 1 := by decide
  unfold Scf.trips
  rw [upper_eq, h1, toInt_small lo (by omega), toInt_small (hi + 1#32) (by omega), hs]
  omega

/-- The loop's bounds give it a meaning. -/
theorem loop_ok (lo hi : BitVec 32) (h : lo.toNat ≤ hi.toNat) (h256 : hi.toNat ≤ 256) :
    Scf.OK lo (upper lo hi) 1#32 := by
  have h1 : (1#32 : BitVec 32).toInt = 1 := by decide
  unfold Scf.OK
  rw [trips_eq lo hi h h256, h1, toInt_small lo (by omega)]
  refine ⟨by decide, ?_⟩
  have : (2 : Int) ^ (32 - 1) = 2147483648 := by norm_num
  omega

/-- The segment number of trip `k`. -/
theorem toNat_iv (lo : BitVec 32) (k : ℕ) (h : lo.toNat + k ≤ 256) : (Scf.iv lo 1#32 k).toNat = lo.toNat + k := by
  simp only [Scf.iv, BitVec.mul_one, BitVec.toNat_add, BitVec.toNat_ofNat]
  omega

/-- The segment number of trip `k` is at most 256. -/
theorem iv_le (lo hi : BitVec 32) (h : lo.toNat ≤ hi.toNat) (h256 : hi.toNat ≤ 256)
    (k : Fin (Scf.trips lo (upper lo hi) 1#32)) : lo.toNat + k.val ≤ 256 := by
  have := lt_of_lt_of_eq k.isLt (trips_eq lo hi h h256)
  omega

/-- The segment numbers of a block of 1024 rows (held in eight equal columns) are in order and at most 256. -/
def Ordered (x : IVec ⟨2, ![1024, 8]⟩ 32) : Prop :=
  ∀ r r' : Fin 1024, r ≤ r' → (x (ix2 r 0)).toNat ≤ (x (ix2 r' 0)).toNat ∧ (x (ix2 r' 0)).toNat ≤ 256

/-- A block's word at row `r`, extracted as the kernel extracts it. -/
theorem word_at (v : IVec ⟨2, ![1024, 8]⟩ 32) (r : Fin 1024)
    (h : (⟨2, ![1024, 8]⟩ : Shape).Slices ![r.val, 0] ⟨2, ![1, 1]⟩) (hp) :
    extractAt ![0, 0] (extractStridedSlice ⟨2, ![1, 1]⟩ ![r.val, 0] v h) hp = v (ix2 r 0) :=
  congrArg v (by funext a; fin_cases a <;> rfl)

end Cert.Words
-- ==== Proof.KernelRun.lean ====
/- The kernel body run on any staging buffers, for the frame: what it needs of the segment numbers of its block, and that
   it hands every input buffer back as it found it. -/
module

public import proofs.«01_k».proof.Proof.Gen.Kernel.Frame
public import proofs.«01_k».proof.Proof.Gen.Kernel.Loops
public import proofs.«01_k».proof.Proof.Words
public import Idealize.ShloMosaic.Lib.WholeRead
public import Idealize.ShloMosaic.Lib.Pointwise

@[expose] public section

set_option maxRecDepth 16384

noncomputable section

namespace Cert.Kernel.Own

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The side condition of a chunk's loops holds for words in order and at most 256. -/
theorem chk1_of (lo hi : BitVec 32) (h : lo.toNat ≤ hi.toNat) (h256 : hi.toNat ≤ 256) : k0_chk1 lo hi := by
  refine ⟨loop_ok lo hi h h256, ?_, Scf.rem_ok _ _, fun k => (Scf.rem_no_trip _ _ k).elim⟩
  intro k a
  have hk := iv_le lo hi h h256 k
  have e : (Scf.iv lo 1#32 k.val).toNat = lo.toNat + k.val := toNat_iv lo k hk
  unfold k0_off1
  fin_cases a
  · show (Scf.iv lo 1#32 k.val).toNat + 1 ≤ 264
    omega
  · show 0 + 512 ≤ 512
    omega

/-- The first chunk's side condition, for a block in order; -/
theorem chk1_ordered (v : IVec S1024x8 32) (h : Ordered v) :
    k0_chk1 (extractAt ![0, 0] (k0_pay23 v) inpos_S1x1_p0_0) (extractAt ![0, 0] (k0_pay24 v) inpos_S1x1_p0_0) := by
  have e1 : extractAt ![0, 0] (k0_pay23 v) inpos_S1x1_p0_0 = v (ix2 0 0) := word_at v 0 slices_S1024x8_o0_0_S1x1 _
  have e2 : extractAt ![0, 0] (k0_pay24 v) inpos_S1x1_p0_0 = v (ix2 255 0) := word_at v 255 slices_S1024x8_o255_0_S1x1 _
  rw [e1, e2]
  exact chk1_of _ _ (h 0 255 (by decide)).1 (h 0 255 (by decide)).2
/-- the second chunk's; -/
theorem chk2_ordered (v : IVec S1024x8 32) (h : Ordered v) :
    k0_chk2 (extractAt ![0, 0] (k0_pay29 v) inpos_S1x1_p0_0) (extractAt ![0, 0] (k0_pay30 v) inpos_S1x1_p0_0) := by
  have e1 : extractAt ![0, 0] (k0_pay29 v) inpos_S1x1_p0_0 = v (ix2 256 0) := word_at v 256 slices_S1024x8_o256_0_S1x1 _
  have e2 : extractAt ![0, 0] (k0_pay30 v) inpos_S1x1_p0_0 = v (ix2 511 0) := word_at v 511 slices_S1024x8_o511_0_S1x1 _
  rw [e1, e2]
  exact chk1_of _ _ (h 256 511 (by decide)).1 (h 256 511 (by decide)).2
/-- the third chunk's; -/
theorem chk3_ordered (v : IVec S1024x8 32) (h : Ordered v) :
    k0_chk3 (extractAt ![0, 0] (k0_pay35 v) inpos_S1x1_p0_0) (extractAt ![0, 0] (k0_pay36 v) inpos_S1x1_p0_0) := by
  have e1 : extractAt ![0, 0] (k0_pay35 v) inpos_S1x1_p0_0 = v (ix2 512 0) := word_at v 512 slices_S1024x8_o512_0_S1x1 _
  have e2 : extractAt ![0, 0] (k0_pay36 v) inpos_S1x1_p0_0 = v (ix2 767 0) := word_at v 767 slices_S1024x8_o767_0_S1x1 _
  rw [e1, e2]
  exact chk1_of _ _ (h 512 767 (by decide)).1 (h 512 767 (by decide)).2
/-- the fourth chunk's. -/
theorem chk4_ordered (v : IVec S1024x8 32) (h : Ordered v) :
    k0_chk4 (extractAt ![0, 0] (k0_pay5 v) inpos_S1x1_p0_0) (extractAt ![0, 0] (k0_pay6 v) inpos_S1x1_p0_0) := by
  have e1 : extractAt ![0, 0] (k0_pay5 v) inpos_S1x1_p0_0 = v (ix2 768 0) := word_at v 768 slices_S1024x8_o768_0_S1x1 _
  have e2 : extractAt ![0, 0] (k0_pay6 v) inpos_S1x1_p0_0 = v (ix2 1023 0) := word_at v 1023 slices_S1024x8_o1023_0_S1x1 _
  rw [e1, e2]
  exact chk1_of _ _ (h 768 1023 (by decide)).1 (h 768 1023 (by decide)).2

section Run

variable (c : Dev nD) (i : grid0.Coords) (arg1 : Memref sig .tc .vmem S1024x512 .f32) (harg1 : arg1.IsWhole) (arg2 : Memref sig .tc .vmem S1024x8 .i32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S264x512 .f32) (harg7 : arg7.IsWhole) (arg8 : Memref sig .tc .vmem S264x512 .f32) (harg8 : arg8.IsWhole) (arg9 : Memref sig .tc .vmem S264x128 .f32) (harg9 : arg9.IsWhole)

/-- What the body holds of its staging buffers: the inputs at the given contents, the accumulators at some. -/
def held (x0 : Vec F S1024x512 .f32) (x1 : Vec F S1024x8 .i32) (x2 : Vec F S512x512 .f32) (x3 : Vec F S1x512 .f32)
    (x4 : Vec F S512x512 .f32) (x5 : Vec F S1x512 .f32) : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare x4 ∗ owns (c : Thread nD τ) arg6 fullShare x5
    ∗ (∃ d, owns (c : Thread nD τ) arg7 fullShare d) ∗ (∃ d, owns (c : Thread nD τ) arg8 fullShare d)
    ∗ (∃ d, owns (c : Thread nD τ) arg9 fullShare d))

set_option maxHeartbeats 4000000 in
/-- The body at any point, on whole staging buffers whose block of segment numbers is in order: it ends, the inputs as
    they were. -/
theorem run (x0 : Vec F S1024x512 .f32) (x1 : Vec F S1024x8 .i32) (x2 : Vec F S512x512 .f32) (x3 : Vec F S1x512 .f32)
    (x4 : Vec F S512x512 .f32) (x5 : Vec F S1x512 .f32) (hx : Ordered x1) (E : Set ℕ) (K : PUnit → sProp 𝕄) :
    iprop(held c arg1 arg2 arg3 arg4 arg5 arg6 arg7 arg8 arg9 x0 x1 x2 x3 x4 x5
        ∗ (held c arg1 arg2 arg3 arg4 arg5 arg6 arg7 arg8 arg9 x0 x1 x2 x3 x4 x5 -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  have hL : ∀ j, (k0_pay14 (F := F) (View.readAt (Elt F) arg2.view (Rect.unit (s := S1024x8) ![0, 0] S1024x8.size inb_S1024x8_S1024x8_0_0).toLoadRect (harg2.unread x1))) j = x1 j := by
    intro j
    unfold k0_pay14
    rw [shapeCast_self, harg2.readAt_unread]
    exact congrArg x1 (by funext a; fin_cases a <;> exact Fin.ext (by simp))
  have hx' : Ordered (k0_pay14 (F := F) (View.readAt (Elt F) arg2.view (Rect.unit (s := S1024x8) ![0, 0] S1024x8.size inb_S1024x8_S1024x8_0_0).toLoadRect (harg2.unread x1))) := fun r r' h => by rw [hL, hL]; exact hx r r' h
  have hk1 : k0_chk1 (extractAt ![0, 0] (k0_pay23 (k0_pay14 (F := F) (View.readAt (Elt F) arg2.view (Rect.unit (s := S1024x8) ![0, 0] S1024x8.size inb_S1024x8_S1024x8_0_0).toLoadRect (harg2.unread x1)))) inpos_S1x1_p0_0) (extractAt ![0, 0] (k0_pay24 (k0_pay14 (F := F) (View.readAt (Elt F) arg2.view (Rect.unit (s := S1024x8) ![0, 0] S1024x8.size inb_S1024x8_S1024x8_0_0).toLoadRect (harg2.unread x1)))) inpos_S1x1_p0_0) :=
    chk1_ordered _ hx'
  have hk2 : k0_chk2 (extractAt ![0, 0] (k0_pay29 (k0_pay14 (F := F) (View.readAt (Elt F) arg2.view (Rect.unit (s := S1024x8) ![0, 0] S1024x8.size inb_S1024x8_S1024x8_0_0).toLoadRect (harg2.unread x1)))) inpos_S1x1_p0_0) (extractAt ![0, 0] (k0_pay30 (k0_pay14 (F := F) (View.readAt (Elt F) arg2.view (Rect.unit (s := S1024x8) ![0, 0] S1024x8.size inb_S1024x8_S1024x8_0_0).toLoadRect (harg2.unread x1)))) inpos_S1x1_p0_0) :=
    chk2_ordered _ hx'
  have hk3 : k0_chk3 (extractAt ![0, 0] (k0_pay35 (k0_pay14 (F := F) (View.readAt (Elt F) arg2.view (Rect.unit (s := S1024x8) ![0, 0] S1024x8.size inb_S1024x8_S1024x8_0_0).toLoadRect (harg2.unread x1)))) inpos_S1x1_p0_0) (extractAt ![0, 0] (k0_pay36 (k0_pay14 (F := F) (View.readAt (Elt F) arg2.view (Rect.unit (s := S1024x8) ![0, 0] S1024x8.size inb_S1024x8_S1024x8_0_0).toLoadRect (harg2.unread x1)))) inpos_S1x1_p0_0) :=
    chk3_ordered _ hx'
  have hk4 : k0_chk4 (extractAt ![0, 0] (k0_pay5 (k0_pay14 (F := F) (View.readAt (Elt F) arg2.view (Rect.unit (s := S1024x8) ![0, 0] S1024x8.size inb_S1024x8_S1024x8_0_0).toLoadRect (harg2.unread x1)))) inpos_S1x1_p0_0) (extractAt ![0, 0] (k0_pay6 (k0_pay14 (F := F) (View.readAt (Elt F) arg2.view (Rect.unit (s := S1024x8) ![0, 0] S1024x8.size inb_S1024x8_S1024x8_0_0).toLoadRect (harg2.unread x1)))) inpos_S1x1_p0_0) :=
    chk4_ordered _ hx'
  simp only [cc0__body_eq_skeleton]; unfold cc0__body_skel
  simp only [k0_part1_eq_skeleton, k0_part2_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  by_cases hc0 : (Scalar.cmpi .ne (Scalar.extui (Scalar.cmpi .eq (BitVec.ofNat 32 (i 0).val) 0#32)) 0#32) = 1#1 <;>
  by_cases hc1 : (Scalar.cmpi .ne (Scalar.extui (Scalar.cmpi .eq (BitVec.ofNat 32 (i 0).val) 97#32)) 0#32) = 1#1
  all_goals
    sl_exec (disch := first | sl_exact hc0 | sl_exact hc1 | sl_exact hk1 | sl_exact hk2 | sl_exact hk3 | sl_exact hk4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Run

end Cert.Kernel.Own
-- ==== Proof.Pre.lean ====
/- What the precondition `sorted_segments` says of the segment words: each lies in 0..255 and they never decrease.
   And what follows for the words padded to 98 blocks of 1024 rows with the word 256. -/
module

public import proofs.«01_k».proof.Pre_sorted_segments
public import proofs.«01_k».proof.Proof.Words
public import Idealize.ShloMosaic.Lib.WordCmp

@[expose] public section

namespace Cert.Seg

open Idealize.ShloMosaic

/-- The segment words are below 256 and never decrease. -/
def Sorted (b : IVec ⟨1, ![100000]⟩ 32) : Prop :=
  (∀ i : Fin 100000, (b (ix1 i)).toNat < 256) ∧ ∀ i j : Fin 100000, i ≤ j → (b (ix1 i)).toNat ≤ (b (ix1 j)).toNat

/-- The word of row `n` of the padded array: the row's own word, 256 past the last row. -/
def word (b : IVec ⟨1, ![100000]⟩ 32) (n : ℕ) : BitVec 32 := if h : n < 100000 then b (ix1 ⟨n, h⟩) else 256#32

/-- A word between 0 and 255 when read signed is below 256. -/
theorem small_of_range (w : BitVec 32) (h0 : (0#32).toInt ≤ w.toInt) (h1 : w.toInt < (256#32).toInt) : w.toNat < 256 := by
  have e0 : (0#32 : BitVec 32).toInt = 0 := by decide
  have e1 : (256#32 : BitVec 32).toInt = 256 := by decide
  rw [e0] at h0; rw [e1] at h1
  have hw := w.isLt
  rw [BitVec.toInt_eq_toNat_cond] at h0 h1
  split at h0 <;> omega

/-- Words that never decrease from one row to the next never decrease. -/
theorem mono_of_step (f : Fin 100000 → ℕ) (h : ∀ i : Fin 99999, f ⟨i.val, by omega⟩ ≤ f ⟨1 + i.val, by omega⟩)
    (i j : Fin 100000) (hij : i ≤ j) : f i ≤ f j := by
  obtain ⟨i, hi⟩ := i
  obtain ⟨j, hj⟩ := j
  have hle : i ≤ j := hij
  induction j, hle using Nat.le_induction with
  | base => exact le_rfl
  | succ n hn ih =>
    refine (ih (by omega) hn).trans ?_
    have := h ⟨n, by omega⟩
    simpa [Nat.add_comm] using this

/-- The precondition at the segment words. -/
theorem sorted_of_pre {F : FTy → Type} [FloatOps F] [Cert.Pre_sorted_segments.Facts] (x : FVec F ⟨2, ![100000, 512]⟩ .f32)
    (b : IVec ⟨1, ![100000]⟩ 32) (w1 : FVec F ⟨2, ![512, 512]⟩ .f32) (b1 : FVec F ⟨1, ![512]⟩ .f32)
    (w2 : FVec F ⟨2, ![512, 512]⟩ .f32) (b2 : FVec F ⟨1, ![512]⟩ .f32)
    (h : Cert.Pre_sorted_segments.fn (F := F) x b w1 b1 w2 b2 = fun _ => 1#1) : Sorted b := by
  have : Subsingleton (Cert.Pre_sorted_segments.S_).Idx := ⟨fun a b => funext fun i => i.elim0⟩
  have h0 := congrFun h (fun i => i.elim0)
  obtain ⟨h12, h3⟩ := IntOp.andi_eq_one.1 h0
  obtain ⟨h1, h2⟩ := IntOp.andi_eq_one.1 h12
  have g1 := Host.reduce_andi_all _ _ _ _ _ h1
  have g2 := Host.reduce_andi_all _ _ _ _ _ h2
  have g3 := Host.reduce_andi_all _ _ _ _ _ h3
  have small : ∀ i : Fin 100000, (b (ix1 i)).toNat < 256 := fun i => by
    have a1 := g1 (ix1 i)
    have a2 := g2 (ix1 i)
    exact small_of_range _ (of_decide_eq_true ((WordCmp.ofBool_eq_one_iff _).1 a1)) (of_decide_eq_true ((WordCmp.ofBool_eq_one_iff _).1 a2))
  refine ⟨small, mono_of_step (fun i => (b (ix1 i)).toNat) fun i => ?_⟩
  have s0 := small ⟨i.val, by omega⟩
  have s1 := small ⟨1 + i.val, by omega⟩
  have d0 := Words.toInt_small _ (s0.le.trans (by decide))
  have d1 := Words.toInt_small _ (s1.le.trans (by decide))
  have a3 := of_decide_eq_true ((WordCmp.ofBool_eq_one_iff _).1 (g3 (ix1 i)))
  have a4 : (b (ix1 ⟨i.val, by omega⟩)).toInt ≤ (b (ix1 ⟨1 + i.val, by omega⟩)).toInt := by
    refine le_of_eq_of_le (congrArg (fun k => (b k).toInt) ?_) (a3.trans_eq (congrArg (fun k => (b k).toInt) ?_))
    all_goals (funext a; fin_cases a; exact Fin.ext (by simp [ix1]))
  rw [d0, d1] at a4
  exact_mod_cast a4

/-- The padded words are at most 256. -/
theorem word_le (b : IVec ⟨1, ![100000]⟩ 32) (h : Sorted b) (n : ℕ) : (word b n).toNat ≤ 256 := by
  unfold word
  split
  · exact (h.1 _).le
  · decide

/-- The padded words never decrease. -/
theorem word_mono (b : IVec ⟨1, ![100000]⟩ 32) (h : Sorted b) (n k : ℕ) (hnk : n ≤ k) : (word b n).toNat ≤ (word b k).toNat := by
  by_cases hk : k < 100000
  · unfold word
    rw [dif_pos hk, dif_pos (hnk.trans_lt hk)]
    exact h.2 _ _ hnk
  · refine (word_le b h n).trans ?_
    unfold word
    rw [dif_neg hk]
    decide

/-- A block of 1024 consecutive padded words, the same word in each of its 8 columns, is ordered. -/
theorem ordered_block (b : IVec ⟨1, ![100000]⟩ 32) (h : Sorted b) (x : IVec ⟨2, ![1024, 8]⟩ 32) (n : ℕ)
    (hx : ∀ r : Fin 1024, x (ix2 r 0) = word b (1024 * n + r.val)) : Words.Ordered x := fun r r' hr => by
  rw [hx, hx]
  exact ⟨word_mono b h _ _ (Nat.add_le_add_left hr _), word_le b h _⟩

end Cert.Seg
-- ==== Proof.KernelEntry.lean ====
/- The block of segment words that a grid point of the kernel reads. -/
module

public import proofs.«01_k».proof.Proof.Gen.Kernel.Frame
public import proofs.«01_k».proof.Proof.Pre
public import Idealize.ShloMosaic.Lib.Claim
public import Idealize.ShloMosaic.Lib.StableHlo.ReadAt
public import Idealize.ShloMosaic.Lib.Pipeline.Value

@[expose] public section

noncomputable section

namespace Cert.Kernel.Own

open Idealize.ShloMosaic Idealize.ShloMosaic.TcCoe Idealize.ShloMosaic.Tactic
open Cert.Kernel.Gen

variable {F : FTy → Type} [FloatOps F]
variable (m : (ℓ : Loc nD τ sig) → Buf (Elt F) ℓ)

/-- The padded segment words as the region finds them, in each of 8 columns. -/
theorem V_ids (c : Dev nD) (r : Fin 100352) (k : Fin 8) :
    (V m c main_v5 : IVec S100352x8 32) (ix2 r k) = Seg.word (m ((c : Thread nD τ).loc main_arg1)) r.val := by
  unfold V V0 Seg.word
  simp only [List.flatten_cons, List.flatten_nil, List.append_nil]
  after_reads_at
  rfl

/-- The block of segment words at point `t`: rows `1024 t` to `1024 t + 1023`. -/
theorem ids_block (c : Dev nD) (t : Fin cfg0.N) (r : Fin 1024) (k : Fin 8) :
    (iblk m c 1 t : IVec S1024x8 32) (ix2 r k) = Seg.word (m ((c : Thread nD τ).loc main_arg1)) (1024 * t.val + r.val) := by
  have ht : t.val < 98 := Nat.lt_of_lt_of_eq t.isLt N_0
  have hi : win0_1.index t 0 = t.val ∧ win0_1.index t 1 = 0 := by
    refine ⟨?_, rfl⟩
    show (BitVec.ofNat 32 (grid0.coords t 0).val).toNat = t.val
    rw [show (grid0.coords t 0).val = t.val / 1 % 98 from Pipeline.Grid.coords_val t 0 (by decide) rfl, WordCmp.toNat_ofNat_of_lt (by omega)]
    omega
  rw [← V_ids m c ⟨1024 * t.val + r.val, by omega⟩ k]
  unfold iblk
  rw [View.read_apply]
  show V m c main_v5 _ = V m c main_v5 _
  congr 1
  funext a
  apply Fin.ext
  match a with
  | ⟨0, _⟩ => show win0_1.index t 0 * 1024 + 1 * r.val = 1024 * t.val + r.val; rw [hi.1]; omega
  | ⟨1, _⟩ => show win0_1.index t 1 * 8 + 1 * k.val = k.val; rw [hi.2]; omega

end Cert.Kernel.Own

end
-- ==== Proof.KernelFrame.lean ====
/- The kernel as given, from any memory whose segment words are sorted: it ends, its arguments are as they were, and every
   semaphore counter is back at zero. Nothing is said here of what it computes. -/
module

public import proofs.«01_k».proof.Proof.KernelRun
public import proofs.«01_k».proof.Proof.KernelEntry

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers that the host lines after the region write. -/
def T0 : Finset (Ref sig .tc) := {main_v11, main_v12, main_v13}

/-- They write no other. -/
theorem sfx_writes : ∀ ops ∈ ([hostOps1] : List (List (HloOp τ sig (Elt F)))), ∀ op ∈ ops, ∀ b : Ref sig .tc,
    Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.unary_writes, StableHlo.binary_writes, Finset.mem_singleton] at hb
    cases Proc.devRef_injective _ hb
    decide

/-- The three results of the region are not named in this run. -/
def forgets : Fin 9 → Bool := fun w => w.val == 6 || w.val == 7 || w.val == 8

/-- The proof data: each input's buffer holds its block after the body, the three results are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- Each input's buffer holds its block when the body starts. -/
theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d

/-- What the body has at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))

/-- What it leaves. -/
def bodyPost (c : Dev nD) (t : Fin cfg0.N) : sProp 𝕄 :=
  iprop((dats m 0 c).Φ t.castSucc ∗ (dats m 0 c).owesAt () t.castSucc
    ∗ held c (st0_0 t) (st0_1 t) (st0_2 t) (st0_3 t) (st0_4 t) (st0_5 t) (st0_6 t) (st0_7 t) (st0_8 t)
        (iblk m c 0 t) (iblk m c 1 t) (iblk m c 2 t) (iblk m c 3 t) (iblk m c 4 t) (iblk m c 5 t))

/-- The block of segment words at a point is in order. -/
theorem ids_ordered (hs : ∀ c : Dev nD, Seg.Sorted (m ((c : Thread nD τ).loc main_arg1))) (c : Dev nD) (t : Fin cfg0.N) :
    Words.Ordered (iblk m c 1 t : IVec S1024x8 32) :=
  Seg.ordered_block _ (hs c) _ t.val fun r => ids_block m c t r 0

/-- The body at a point. -/
theorem sound_body (hs : ∀ c : Dev nD, Seg.Sorted (m ((c : Thread nD τ).loc main_arg1))) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  iintro ⟨HΦ, Ho, ⟨%d0, H0⟩, ⟨%d1, H1⟩, ⟨%d2, H2⟩, ⟨%d3, H3⟩, ⟨%d4, H4⟩, ⟨%d5, H5⟩, H6, H7, H8⟩
  iapply (run c (grid0.coords t) _ _ _ _ _ _ _ _ _ _ _ _ _ _ _ _ _ _ (iblk m c 0 t) (iblk m c 1 t) (iblk m c 2 t) (iblk m c 3 t) (iblk m c 4 t) (iblk m c 5 t) (ids_ordered m hs c t) Set.univ _)
  isplitl [H0 H1 H2 H3 H4 H5 H6 H7 H8]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro H
  isplitl [HΦ]; · iexact HΦ
  isplitl [Ho]; · iexact Ho
  iexact H

/-- The body table's row at a point. -/
theorem defs₀_row (t : Fin cfg0.N) : defs₀ (F := F) .tc cfg0.body (cfg0.bodyArgs t (cfg0.slots t)) = bodyAt0 t := by
  unfold defs₀; rw [Defs.onTc_tc]

/-- The body obligation of the pipeline. -/
theorem body_obligation (hs : ∀ c : Dev nD, Seg.Sorted (m ((c : Thread nD τ).loc main_arg1))) (c : Dev nD) :
    BodyObligation (dats (F := F) m 0 c) (defs₀ (F := F)) Variants.none () Set.univ forgets := fun t => by
  rw [bigSep_W0, bigSep_W0, defs₀_row]
  exact triple_restated (sound_body m hs c t) rfl .rfl fun _ => .rfl

-- the implicit arguments are found by unifying the conclusion with this one, which takes unfolding plain definitions in
-- the type of a metavariable
set_option backward.isDefEq.respectTransparency.types false in
set_option maxHeartbeats 800000 in
/-- The launch: every semaphore counter ends at zero, nothing named of the results. -/
theorem run_main (hs : ∀ c : Dev nD, Seg.Sorted (m ((c : Thread nD τ).loc main_arg1))) :
    θ_run defs (onTc (τ := τ) (main (F := F))) (s₀ m ρ) (fun r =>
      (Pipeline.RDat.FramePostR (cfgs 0) (fun c => (dats m 0 c).toRForget forgets) T0 (V m)) r ∧ r.2.sem = fun _ => 0) :=
  Pipeline.θ_run_frame_around_T_forget (Q' := _) cfgs (dats m) (0 : Fin 1) launch0 defs₀ Variants.none forgets T0 m ρ main
    (hbody := fun c => (body_obligation m hs c).loose) (hshare := fun c => (dats m 0 c).share_full fun _ => rfl)
    (howed := fun _ _ => rfl) (V₀ := V0 m) (opss := [hostOps1]) (hsub := sfx_sub) (hfresh := sfx_fresh)
    (hkeep := sfx_keeps) (hT := sfx_writes) (hmain := hmain m Variants.none) (hA := A_eq m) (hΦ := fun _ _ => rfl)

/-- An argument array that no host line writes ends as launched. -/
theorem kept (hs : ∀ c : Dev nD, Seg.Sorted (m ((c : Thread nD τ).loc main_arg1))) (c : Dev nD) (b : Ref sig .tc)
    (hb : b ∈ Pipeline.restRefs sig spec0 \ T0) (hV : V m c b = m ((c : Thread nD τ).loc b)) {r}
    (h : Pipeline.RDat.FramePostR (cfgs 0) (fun c => (dats m 0 c).toRForget forgets) T0 (V m) r) :
    r.2.mem ((c : Thread nD τ).loc b) = m ((c : Thread nD τ).loc b) :=
  ((h c).2 b hb).trans hV

/-- The frame of the kernel. -/
theorem frame (hs : ∀ c : Dev nD, Seg.Sorted (m ((c : Thread nD τ).loc main_arg1))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨kept m hs c main_arg0 (Finset.mem_sdiff.mpr ⟨Pipeline.mem_restRefs_of main_arg0 (by decide) (by decide), by decide⟩) (V_main_arg0 m c) h.1,
      kept m hs c main_arg1 (Finset.mem_sdiff.mpr ⟨Pipeline.mem_restRefs_of main_arg1 (by decide) (by decide), by decide⟩) (V_main_arg1 m c) h.1,
      kept m hs c main_arg2 (Finset.mem_sdiff.mpr ⟨Pipeline.mem_restRefs_of main_arg2 (by decide) (by decide), by decide⟩) (V_main_arg2 m c) h.1,
      kept m hs c main_arg3 (Finset.mem_sdiff.mpr ⟨Pipeline.mem_restRefs_of main_arg3 (by decide) (by decide), by decide⟩) (V_main_arg3 m c) h.1,
      kept m hs c main_arg4 (Finset.mem_sdiff.mpr ⟨Pipeline.mem_restRefs_of main_arg4 (by decide) (by decide), by decide⟩) (V_main_arg4 m c) h.1,
      kept m hs c main_arg5 (Finset.mem_sdiff.mpr ⟨Pipeline.mem_restRefs_of main_arg5 (by decide) (by decide), by decide⟩) (V_main_arg5 m c) h.1⟩,
    h.2⟩) (run_main m ρ hs)

end Cert.Kernel.Own

end
-- ==== Proof.IdealLoops.lean ====
/- The kernel's four loops over segment numbers, each with what its running-maximum buffer holds before every trip: the
   rows the earlier trips have rewritten, written over the contents the loop began with. -/
module

public import proofs.«01_k».proof.Proof.Gen.KernelIdeal.Frame
public import proofs.«01_k».proof.Proof.Gen.KernelIdeal.Loops
public import proofs.«01_k».proof.Proof.Words
public import Idealize.ShloMosaic.Lib.WholeRead
public import Idealize.ShloMosaic.Lib.WritesUnit
public import Idealize.ShloMosaic.Lib.Pointwise

@[expose] public section

set_option maxRecDepth 16384

noncomputable section

namespace Cert.KernelIdeal.Own

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Rows

variable (m : Memref sig .tc .vmem S264x512 .f32) {n : ℕ} (off : Fin n → Fin 2 → ℕ)
  (inb : ∀ k : Fin n, ∀ a, off k a + S1x512.size a ≤ S264x512.size a)
  (pay : Fin n → Vec F S1x512 .f32 → FVec F S1x512 .f32) (G : BufTy.Contents (Elt F) m.view.ty)

/-- The rows rewritten by the trips before `k`, last first: each trip's payload of the row it finds. -/
def rowPieces : ℕ → List (View.Piece (Elt F) S264x512 .f32)
  | 0 => []
  | k + 1 => if h : k < n then
      ⟨Rect.unit (s := S264x512) (off ⟨k, h⟩) S1x512.size (inb ⟨k, h⟩),
        pay ⟨k, h⟩ (m.view.readAt (Elt F) (Rect.unit (s := S264x512) (off ⟨k, h⟩) S1x512.size (inb ⟨k, h⟩)).toLoadRect
          (m.view.writes (Elt F) G (rowPieces k)))⟩ :: rowPieces k
    else rowPieces k

/-- The buffer's contents before trip `k`, from the contents `G` at the loop's entry. -/
abbrev rowAcc (k : ℕ) : BufTy.Contents (Elt F) m.view.ty := m.view.writes (Elt F) G (rowPieces m off inb pay G k)

/-- What trip `k` leaves, stated on the trip itself. -/
theorem rowAcc_succ (k : Fin n) : m.view.writes (Elt F) G (rowPieces m off inb pay G (k.val + 1))
    = m.view.writes (Elt F) (m.view.writes (Elt F) G (rowPieces m off inb pay G k.val))
      [⟨Rect.unit (s := S264x512) (off k) S1x512.size (inb k),
        pay k (m.view.readAt (Elt F) (Rect.unit (s := S264x512) (off k) S1x512.size (inb k)).toLoadRect
          (m.view.writes (Elt F) G (rowPieces m off inb pay G k.val)))⟩] := by
  rw [rowPieces.eq_2, dif_pos k.isLt]
  rfl

end Rows

/-! The loops' invariants: the buffer at its contents before the trip. -/

section Loops

variable (𝒱 : Variants) (c : Dev nD) (bd : Option 𝒱.V) (E : Set ℕ) (i : grid0.Coords)
  (arg1 : Memref sig .tc .vmem S1024x512 .f32) (harg1 : arg1.IsWhole)
  (arg2 : Memref sig .tc .vmem S1024x8 .i32) (harg2 : arg2.IsWhole)
  (arg3 : Memref sig .tc .vmem S512x512 .f32) (harg3 : arg3.IsWhole)
  (arg4 : Memref sig .tc .vmem S1x512 .f32) (harg4 : arg4.IsWhole)
  (arg5 : Memref sig .tc .vmem S512x512 .f32) (harg5 : arg5.IsWhole)
  (arg6 : Memref sig .tc .vmem S1x512 .f32) (harg6 : arg6.IsWhole)
  (arg7 : Memref sig .tc .vmem S264x512 .f32) (harg7 : arg7.IsWhole)
  (arg8 : Memref sig .tc .vmem S264x512 .f32) (harg8 : arg8.IsWhole)
  (arg9 : Memref sig .tc .vmem S264x128 .f32) (harg9 : arg9.IsWhole)

set_option warn.classDefReducibility false in
/-- The first chunk's loop. -/
@[sl_loop] def loop1 (v22 : FVec F S1024x512 .f32) (v24 : IVec S1024x8 32) (v25 : IVec S1024x1 32) (v33 : FVec F S256x640 .f32) (v35 : FVec F S256x512 .f32) (v36 : FVec F S256x512 .f32) (v47 : BitVec 32) (v49 : BitVec 32) (k0_hw1 : k0_chk1 v47 v49)
    (G : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 v22 v24 v25 v33 v35 v36 v47 v49 k0_hw1 where
  inv k _ := iprop(∃ f, (arg7.view.loc (c : Thread nD τ) ↦[arg7.view.set]{fullShare} f) ∗ ⌜f = arg7.view.writes (Elt F) G (rowPieces arg7 (k0_off1 v47 v49) (k0_off1_inb v47 v49 k0_hw1) (k0_pay25 v22 v24 v25 v47 v49) G k)⌝)
  step k acc := by
    rw [rowAcc_succ]
    unfold k0_t1_body
    iintro ⟨%f, HW, %h⟩
    obtain rfl := h
    generalize arg7.view.writes (Elt F) G (rowPieces arg7 (k0_off1 v47 v49) (k0_off1_inb v47 v49 k0_hw1) (k0_pay25 v22 v24 v25 v47 v49) G k.val) = f
    sl_exec
    sl_step
    iexists _
    isplitl [HW]
    · iexact HW
    · ipureintro; rfl

set_option warn.classDefReducibility false in
/-- The second chunk's loop. -/
@[sl_loop] def loop3 (v22 : FVec F S1024x512 .f32) (v24 : IVec S1024x8 32) (v25 : IVec S1024x1 32) (v33 : FVec F S256x640 .f32) (v35 : FVec F S256x512 .f32) (v36 : FVec F S256x512 .f32) (v59 : BitVec 32) (v61 : BitVec 32) (k0_hw2 : k0_chk2 v59 v61)
    (G : BufTy.Contents (Elt F) arg7.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 v22 v24 v25 v33 v35 v36 v59 v61 k0_hw2 where
  inv k _ := iprop(∃ f, (arg7.view.loc (c : Thread nD τ) ↦[arg7.view.set]{fullShare} f) ∗ ⌜f = arg7.view.writes (Elt F) G (rowPieces arg7 (k0_off3 v59 v61) (k0_off3_inb v59 v61 k0_hw2) (k0_pay31 v22 v24 v25 v59 v61) G k)⌝)
  step k acc := by
    rw [rowAcc_succ]
    unfold k0_t3_body
    iintro ⟨%f, HW, %h⟩
    obtain rfl := h
    generalize arg7.view.writes (Elt F) G (rowPieces arg7 (k0_off3 v59 v61) (k0_off3_inb v59 v61 k0_hw2) (k0_pay31 v22 v24 v25 v59 v61) G k.val) = f
    sl_exec
    sl_step
    iexists _
    isplitl [HW]
    · iexact HW
    · ipureintro; rfl

set_option warn.classDefReducibility false in
/-- The third chunk's loop. -/
@[sl_loop] def loop5 (v68 : FVec F S256x512 .f32) (v69 : IVec S256x1 32) (v71 : BitVec 32) (v73 : BitVec 32) (k0_hw3 : k0_chk3 v71 v73)
    (G : BufTy.Contents (Elt F) arg7.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 v68 v69 v71 v73 k0_hw3 where
  inv k _ := iprop(∃ f, (arg7.view.loc (c : Thread nD τ) ↦[arg7.view.set]{fullShare} f) ∗ ⌜f = arg7.view.writes (Elt F) G (rowPieces arg7 (k0_off5 v71 v73) (k0_off5_inb v71 v73 k0_hw3) (k0_pay1 v68 v69 v71 v73) G k)⌝)
  step k acc := by
    rw [rowAcc_succ]
    unfold k0_t5_body
    iintro ⟨%f, HW, %h⟩
    obtain rfl := h
    generalize arg7.view.writes (Elt F) G (rowPieces arg7 (k0_off5 v71 v73) (k0_off5_inb v71 v73 k0_hw3) (k0_pay1 v68 v69 v71 v73) G k.val) = f
    sl_exec
    sl_step
    iexists _
    isplitl [HW]
    · iexact HW
    · ipureintro; rfl

set_option warn.classDefReducibility false in
/-- The fourth chunk's loop. -/
@[sl_loop] def loop7 (v22 : FVec F S1024x512 .f32) (v24 : IVec S1024x8 32) (v25 : IVec S1024x1 32) (v83 : BitVec 32) (v85 : BitVec 32) (k0_hw4 : k0_chk4 v83 v85)
    (G : BufTy.Contents (Elt F) arg7.view.ty) :
    LoopInvTy_k0_t7 (F := F) Unit ℕ (UR sig nD τ) ℕ 𝒱 c bd E i arg1 harg1 arg2 harg2 arg3 harg3 arg4 harg4 arg5 harg5 arg6 harg6 arg7 harg7 arg8 harg8 arg9 harg9 v22 v24 v25 v83 v85 k0_hw4 where
  inv k _ := iprop(∃ f, (arg7.view.loc (c : Thread nD τ) ↦[arg7.view.set]{fullShare} f) ∗ ⌜f = arg7.view.writes (Elt F) G (rowPieces arg7 (k0_off7 v83 v85) (k0_off7_inb v83 v85 k0_hw4) (k0_pay7 v22 v24 v25 v83 v85) G k)⌝)
  step k acc := by
    rw [rowAcc_succ]
    unfold k0_t7_body
    iintro ⟨%f, HW, %h⟩
    obtain rfl := h
    generalize arg7.view.writes (Elt F) G (rowPieces arg7 (k0_off7 v83 v85) (k0_off7_inb v83 v85 k0_hw4) (k0_pay7 v22 v24 v25 v83 v85) G k.val) = f
    sl_exec
    sl_step
    iexists _
    isplitl [HW]
    · iexact HW
    · ipureintro; rfl

end Loops

end Cert.KernelIdeal.Own
-- ==== Proof.Spec.lean ====
/- Segment maxima and segment sums of rows numbered by segment, over the extended reals: over a finite block of rows, and
   over the first rows of an unbounded sequence. -/
module

public import Idealize.ShloMosaic.Lib.Pointwise
public import Idealize.ShloMosaic.Lib.WordCmp

@[expose] public section

noncomputable section

namespace Cert.Seg

open Idealize.ShloMosaic

/-- The greatest of the rows `r` whose segment number `w r` is `s`; −∞ if there is none. -/
def segMax {n : ℕ} (w : Fin n → ℕ) (a : Fin n → EReal) (s : ℕ) : EReal :=
  Finset.univ.sup fun r => if w r = s then a r else ⊥

/-- The sum of the rows whose segment number is `s`; 0 if there is none. -/
def segSum {n : ℕ} (w : Fin n → ℕ) (a : Fin n → EReal) (s : ℕ) : EReal :=
  ∑ r, if w r = s then a r else 0

/-- The same maximum over the first `n` rows of a sequence; -/
def upMax (w : ℕ → ℕ) (a : ℕ → EReal) (n s : ℕ) : EReal :=
  segMax (fun r : Fin n => w r.val) (fun r => a r.val) s

/-- and the same sum. -/
def upSum (w : ℕ → ℕ) (a : ℕ → EReal) (n s : ℕ) : EReal :=
  segSum (fun r : Fin n => w r.val) (fun r => a r.val) s

/-- The kernel's starting value of a maximum is −∞. -/
theorem neg_inf : Ideal.ofBits .f32 4286578688#32 = (⊥ : EReal) := by
  simp [Ideal.ofBits, Ideal.ieee]

/-- A segment with no row has the maximum −∞. -/
theorem segMax_none {n : ℕ} (w : Fin n → ℕ) (a : Fin n → EReal) (s : ℕ) (h : ∀ r, w r ≠ s) : segMax w a s = ⊥ := by
  unfold segMax
  rw [Finset.sup_eq_bot_iff]
  intro r _
  rw [if_neg (h r)]

/-- A choice by the equality of two words, over a finite set of rows, folded by maximum from −∞, is a segment maximum. -/
theorem fold_select {n : ℕ} (w : Fin n → BitVec 32) (a : Fin n → EReal) (s : BitVec 32) :
    Finset.univ.fold max (⊥ : EReal) (fun r => Scalar.select (IntOp.cmpi .eq (w r) s) (a r) ⊥)
      = segMax (fun r => (w r).toNat) a s.toNat := by
  unfold segMax
  show Finset.univ.sup (fun r => Scalar.select (IntOp.cmpi .eq (w r) s) (a r) ⊥) = _
  congr 1
  funext r
  by_cases h : w r = s
  · subst h
    simp [Scalar.select, IntOp.cmpi]
  · rw [if_neg (fun e => h (BitVec.eq_of_toNat_eq e))]
    have hb : (w r == s) = false := beq_eq_false_iff_ne.mpr h
    simp [Scalar.select, IntOp.cmpi, hb]

/-- The maximum over the first `m + n` rows. -/
theorem upMax_add (w : ℕ → ℕ) (a : ℕ → EReal) (m n s : ℕ) :
    upMax w a (m + n) s = max (upMax w a m s) (segMax (fun r : Fin n => w (m + r.val)) (fun r => a (m + r.val)) s) := by
  unfold upMax segMax
  apply le_antisymm
  · refine Finset.sup_le fun r _ => ?_
    by_cases hr : r.val < m
    · exact le_max_of_le_left (Finset.le_sup (f := fun r : Fin m => if w r.val = s then a r.val else ⊥) (Finset.mem_univ ⟨r.val, hr⟩))
    · refine le_max_of_le_right ?_
      have := Finset.le_sup (f := fun r : Fin n => if w (m + r.val) = s then a (m + r.val) else ⊥)
        (Finset.mem_univ ⟨r.val - m, by omega⟩)
      simp only [show m + (r.val - m) = r.val from by omega] at this
      exact this
  · refine max_le (Finset.sup_le fun r _ => ?_) (Finset.sup_le fun r _ => ?_)
    · exact Finset.le_sup (f := fun r : Fin (m + n) => if w r.val = s then a r.val else ⊥) (Finset.mem_univ ⟨r.val, by omega⟩)
    · exact Finset.le_sup (f := fun r : Fin (m + n) => if w r.val = s then a r.val else ⊥) (Finset.mem_univ ⟨m + r.val, by omega⟩)

/-- The sum over the first `m + n` rows. -/
theorem upSum_add (w : ℕ → ℕ) (a : ℕ → EReal) (m n s : ℕ) :
    upSum w a (m + n) s = upSum w a m s + segSum (fun r : Fin n => w (m + r.val)) (fun r => a (m + r.val)) s := by
  unfold upSum segSum
  exact Fin.sum_univ_add _

/-- Over no rows. -/
theorem upMax_zero (w : ℕ → ℕ) (a : ℕ → EReal) (s : ℕ) : upMax w a 0 s = ⊥ := rfl
/-- Over no rows. -/
theorem upSum_zero (w : ℕ → ℕ) (a : ℕ → EReal) (s : ℕ) : upSum w a 0 s = 0 := rfl

/-- Rows of other segments past the first `m` change no maximum; -/
theorem upMax_pad (w : ℕ → ℕ) (a : ℕ → EReal) (m n s : ℕ) (h : ∀ r, m ≤ r → w r ≠ s) : upMax w a (m + n) s = upMax w a m s := by
  rw [upMax_add, segMax_none _ _ _ fun r => h _ (Nat.le_add_right _ _)]
  exact max_eq_left bot_le
/-- nor any sum. -/
theorem upSum_pad (w : ℕ → ℕ) (a : ℕ → EReal) (m n s : ℕ) (h : ∀ r, m ≤ r → w r ≠ s) : upSum w a (m + n) s = upSum w a m s := by
  rw [upSum_add]
  unfold segSum
  rw [Finset.sum_eq_zero fun r _ => if_neg (h _ (Nat.le_add_right _ _)), add_zero]

/-- The maxima of four chunks of 256 rows, taken one after the other, are the block's. -/
theorem four_chunks (w : Fin 1024 → ℕ) (a : Fin 1024 → EReal) (s : ℕ) (g : EReal) :
    max (max (max (max g
      (segMax (fun r : Fin 256 => w ⟨r.val, by omega⟩) (fun r => a ⟨r.val, by omega⟩) s))
      (segMax (fun r : Fin 256 => w ⟨256 + r.val, by omega⟩) (fun r => a ⟨256 + r.val, by omega⟩) s))
      (segMax (fun r : Fin 256 => w ⟨512 + r.val, by omega⟩) (fun r => a ⟨512 + r.val, by omega⟩) s))
      (segMax (fun r : Fin 256 => w ⟨768 + r.val, by omega⟩) (fun r => a ⟨768 + r.val, by omega⟩) s)
    = max g (segMax w a s) := by
  have h4 : ∀ r : Fin 1024, (if w r = s then a r else ⊥) ≤ segMax w a s := fun r =>
    Finset.le_sup (f := fun r => if w r = s then a r else ⊥) (Finset.mem_univ r)
  apply le_antisymm
  · refine max_le (max_le (max_le (max_le (le_max_left _ _) ?_) ?_) ?_) ?_ <;>
    exact le_max_of_le_right (Finset.sup_le fun r _ => h4 _)
  · refine max_le ?_ (Finset.sup_le fun r _ => ?_)
    · exact le_max_of_le_left (le_max_of_le_left (le_max_of_le_left (le_max_left _ _)))
    · have hq : r.val < 256 ∨ (256 ≤ r.val ∧ r.val < 512) ∨ (512 ≤ r.val ∧ r.val < 768) ∨ 768 ≤ r.val := by omega
      rcases hq with h | h | h | h
      · refine le_max_of_le_left (le_max_of_le_left (le_max_of_le_left (le_max_of_le_right ?_)))
        exact Finset.le_sup (f := fun r : Fin 256 => if w ⟨r.val, by omega⟩ = s then a ⟨r.val, by omega⟩ else ⊥) (Finset.mem_univ ⟨r.val, h⟩)
      · refine le_max_of_le_left (le_max_of_le_left (le_max_of_le_right ?_))
        have := Finset.le_sup (f := fun r : Fin 256 => if w ⟨256 + r.val, by omega⟩ = s then a ⟨256 + r.val, by omega⟩ else ⊥)
          (Finset.mem_univ ⟨r.val - 256, by omega⟩)
        unfold segMax
        simpa only [show 256 + (r.val - 256) = r.val from by omega] using this
      · refine le_max_of_le_left (le_max_of_le_right ?_)
        have := Finset.le_sup (f := fun r : Fin 256 => if w ⟨512 + r.val, by omega⟩ = s then a ⟨512 + r.val, by omega⟩ else ⊥)
          (Finset.mem_univ ⟨r.val - 512, by omega⟩)
        unfold segMax
        simpa only [show 512 + (r.val - 512) = r.val from by omega] using this
      · refine le_max_of_le_right ?_
        have := Finset.le_sup (f := fun r : Fin 256 => if w ⟨768 + r.val, by omega⟩ = s then a ⟨768 + r.val, by omega⟩ else ⊥)
          (Finset.mem_univ ⟨r.val - 768, by omega⟩)
        unfold segMax
        simpa only [show 768 + (r.val - 768) = r.val from by omega] using this

/-- The one-hot entry of a row whose word is `a`, in the column of the word `b`, as the kernel converts it. -/
theorem one_hot (a b : BitVec 32) :
    (FloatOps.sitofp (F := Ideal) .f32 (BitVec.setWidth 32 (IntOp.cmpi .eq a b)) : EReal) = if a = b then 1 else 0 := by
  by_cases h : a = b
  · subst h; rw [if_pos rfl]; simp [IntOp.cmpi, FloatOps.sitofp]
  · have hb : (a == b) = false := beq_eq_false_iff_ne.mpr h
    rw [if_neg h]; simp [IntOp.cmpi, FloatOps.sitofp, hb]

/-- A sum of rows weighted by their one-hot entries is the segment's sum. -/
theorem sum_one_hot {n : ℕ} (w : Fin n → BitVec 32) (a : Fin n → EReal) (s : ℕ) (hs : s < 2 ^ 32) :
    (∑ r, (FloatOps.sitofp (F := Ideal) .f32 (BitVec.setWidth 32 (IntOp.cmpi .eq (w r) (BitVec.ofNat 32 s))) : EReal) * a r)
      = segSum (fun r => (w r).toNat) a s := by
  unfold segSum
  refine Finset.sum_congr rfl fun r _ => ?_
  rw [one_hot]
  have e : (BitVec.ofNat 32 s).toNat = s := by rw [BitVec.toNat_ofNat]; exact Nat.mod_eq_of_lt hs
  by_cases h : w r = BitVec.ofNat 32 s
  · rw [if_pos h, if_pos (show (w r).toNat = s by rw [h, e]), one_mul]
  · rw [if_neg h, if_neg (fun h' : (w r).toNat = s => h (BitVec.eq_of_toNat_eq (by rw [h', e]))), zero_mul]

end Cert.Seg
-- ==== Proof.IdealChunk.lean ====
/- What one chunk's loop leaves in the running maxima, at the extended reals: every segment's row becomes its maximum with
   the chunk's rows of that segment. -/
module

public import proofs.«01_k».proof.Proof.IdealLoops
public import proofs.«01_k».proof.Proof.Spec
public import Idealize.ShloMosaic.Lib.ValueIdx

@[expose] public section

set_option maxRecDepth 16384

noncomputable section

namespace Cert.KernelIdeal.Own

open Cert.KernelIdeal Cert.KernelIdeal.Gen Cert.Words Cert.Seg
open Idealize.ShloMosaic

section Rows

variable (m : Memref sig .tc .vmem S264x512 .f32) {n : ℕ} (off : Fin n → Fin 2 → ℕ)
  (inb : ∀ k : Fin n, ∀ a, off k a + S1x512.size a ≤ S264x512.size a)
  (pay : Fin n → Vec Ideal S1x512 .f32 → FVec Ideal S1x512 .f32) (G : BufTy.Contents (Elt Ideal) m.view.ty)

/-- Before trip `k` the rows `lo ≤ s < lo + k` hold their maximum with `row s`, the others what the loop found. -/
theorem read_rowAcc (lo : ℕ) (row : ℕ → Fin 512 → EReal) (hoff : ∀ k, off k = ![lo + k.val, 0])
    (hpay : ∀ k v d, pay k v (ix2 0 d) = max (v (ix2 0 d)) (row (lo + k.val) d)) (k : ℕ) (hk : k ≤ n) (s : Fin 264) (d : Fin 512) :
    m.view.read (Elt Ideal) (rowAcc m off inb pay G k) (ix2 s d)
      = if lo ≤ s.val ∧ s.val < lo + k then max (m.view.read (Elt Ideal) G (ix2 s d)) (row s.val d)
        else m.view.read (Elt Ideal) G (ix2 s d) := by
  induction k generalizing s d with
  | zero => rw [if_neg (by omega)]; rfl
  | succ k ih =>
    have e := rowAcc_succ m off inb pay G ⟨k, hk⟩
    rw [show rowAcc m off inb pay G (k + 1) = _ from e]
    by_cases hs : s.val = lo + k
    · rw [View.read_writes_cons_rows_of_mem (d := ![264, 512]) m.view _ (o := lo + k) (inb ⟨k, hk⟩) _ [] (ix2 s d) (ix2 0 d) (hoff ⟨k, hk⟩)
        (show s.val = lo + k + 0 from hs) rfl, hpay, if_pos (by omega)]
      have hi : (Rect.unit (s := S264x512) (off ⟨k, hk⟩) S1x512.size (inb ⟨k, hk⟩)).toLoadRect.idx (ix2 0 d) = ix2 s d := by
        funext a
        apply Fin.ext
        show (off ⟨k, hk⟩) a + 1 * ((ix2 (0 : Fin 1) d : S1x512.Idx) a).val = _
        rw [hoff]
        fin_cases a
        · show lo + k + 1 * 0 = s.val
          omega
        · show 0 + 1 * d.val = d.val
          omega
      rw [View.readAt_apply, hi]
      have := ih (by omega) s d
      rw [if_neg (by omega)] at this
      rw [this, hs]
    · rw [View.read_writes_cons_rows_of_not_mem (d := ![264, 512]) m.view _ (o := lo + k) (W := 1) (inb ⟨k, hk⟩) _ [] (ix2 s d) (hoff ⟨k, hk⟩) rfl
        (show s.val < lo + k ∨ lo + k + 1 ≤ s.val by omega)]
      show m.view.read (Elt Ideal) (rowAcc m off inb pay G k) (ix2 s d) = _
      rw [ih (by omega) s d]
      by_cases h : lo ≤ s.val ∧ s.val < lo + k
      · rw [if_pos h, if_pos (by omega)]
      · rw [if_neg h, if_neg (by omega)]

/-- After a loop from the first row's word to the last row's, the rows of one chunk numbered in order: every segment's row
    has taken the chunk's rows of that segment. -/
theorem chunk_read (w : Fin 256 → BitVec 32) (a : Fin 256 → Fin 512 → EReal) (lo hi : BitVec 32) (hlo : lo = w 0) (hhi : hi = w 255)
    (hw : ∀ r r' : Fin 256, r ≤ r' → (w r).toNat ≤ (w r').toNat ∧ (w r').toNat ≤ 256) (hn : n = Scf.trips lo (upper lo hi) 1#32)
    (hoff : ∀ k, off k = ![(Scf.iv lo 1#32 k.val).toNat, 0])
    (hpay : ∀ k v d, pay k v (ix2 0 d) = max (v (ix2 0 d)) (Finset.fold max (Ideal.ofBits .f32 4286578688#32)
      (fun r => Scalar.select (IntOp.cmpi .eq (w r) (Scf.iv lo 1#32 k.val)) (a r d) (Ideal.ofBits .f32 4286578688#32)) Finset.univ))
    (s : Fin 264) (d : Fin 512) :
    m.view.read (Elt Ideal) (rowAcc m off inb pay G n) (ix2 s d)
      = max (m.view.read (Elt Ideal) G (ix2 s d)) (segMax (fun r => (w r).toNat) (fun r => a r d) s.val) := by
  subst hlo hhi
  have h1 := (hw 0 255 (by decide)).1
  have h2 := (hw 0 255 (by decide)).2
  have ht := trips_eq (w 0) (w 255) h1 h2
  have hiv : ∀ k : Fin n, (Scf.iv (w 0) 1#32 k.val).toNat = (w 0).toNat + k.val := fun k =>
    toNat_iv _ _ (by have := k.isLt; omega)
  rw [read_rowAcc m off inb pay G (w 0).toNat (fun s d => segMax (fun r => (w r).toNat) (fun r => a r d) s)
    (fun k => by rw [hoff, hiv]) (fun k v d => by rw [hpay, neg_inf, fold_select, hiv]) n le_rfl s d]
  by_cases h : (w 0).toNat ≤ s.val ∧ s.val < (w 0).toNat + n
  · rw [if_pos h]
  · rw [if_neg h, segMax_none]
    · exact (max_eq_left bot_le).symm
    · intro r he
      have e1 := (hw 0 r (Fin.zero_le _)).1
      have e2 := (hw r 255 (Fin.le_last r)).1
      change (w r).toNat = s.val at he
      omega

end Rows

variable (m : Memref sig .tc .vmem S264x512 .f32) (G : BufTy.Contents (Elt Ideal) m.view.ty)
  (A : FVec Ideal S1024x512 .f32) (w : IVec S1024x8 32) (w1 : IVec S1024x1 32) (hw : Ordered w)
  (hw1 : ∀ r, w1 (ix2 r 0) = w (ix2 r 0)) (lo hi : BitVec 32) (s : Fin 264) (d : Fin 512)

include hw hw1

/-- The first chunk: rows 0 to 255; -/
theorem chunk1 (hlo : lo = w (ix2 0 0)) (hhi : hi = w (ix2 255 0)) (hc : k0_chk1 lo hi) :
    m.view.read (Elt Ideal) (rowAcc m (k0_off1 lo hi) (k0_off1_inb lo hi hc) (k0_pay25 A w w1 lo hi) G (k0_t1_loop lo hi).trips) (ix2 s d)
      = max (m.view.read (Elt Ideal) G (ix2 s d))
          (segMax (fun r : Fin 256 => (w (ix2 ⟨r.val, by omega⟩ 0)).toNat) (fun r => A (ix2 ⟨r.val, by omega⟩ d)) s.val) := by
  refine chunk_read m _ _ _ G (fun r => w (ix2 ⟨r.val, by omega⟩ 0)) (fun r d => A (ix2 ⟨r.val, by omega⟩ d)) lo hi hlo hhi
    (fun r r' h => hw _ _ h) rfl (fun k => rfl) (fun k v d => ?_) s d
  pointwise [k0_pay25, k0_pay22, k0_pay21, k0_pay23]
  simp only [hw1, hlo]

/-- the second: rows 256 to 511; -/
theorem chunk2 (hlo : lo = w (ix2 256 0)) (hhi : hi = w (ix2 511 0)) (hc : k0_chk2 lo hi) :
    m.view.read (Elt Ideal) (rowAcc m (k0_off3 lo hi) (k0_off3_inb lo hi hc) (k0_pay31 A w w1 lo hi) G (k0_t3_loop lo hi).trips) (ix2 s d)
      = max (m.view.read (Elt Ideal) G (ix2 s d))
          (segMax (fun r : Fin 256 => (w (ix2 ⟨256 + r.val, by omega⟩ 0)).toNat) (fun r => A (ix2 ⟨256 + r.val, by omega⟩ d)) s.val) := by
  refine chunk_read m _ _ _ G (fun r => w (ix2 ⟨256 + r.val, by omega⟩ 0)) (fun r d => A (ix2 ⟨256 + r.val, by omega⟩ d)) lo hi hlo hhi
    (fun r r' h => hw _ _ (by simpa using h)) rfl (fun k => rfl) (fun k v d => ?_) s d
  pointwise [k0_pay31, k0_pay28, k0_pay27, k0_pay29]
  simp only [hw1, hlo]

/-- the third: rows 512 to 767; -/
theorem chunk3 (hlo : lo = w (ix2 512 0)) (hhi : hi = w (ix2 767 0)) (hc : k0_chk3 lo hi) :
    m.view.read (Elt Ideal) (rowAcc m (k0_off5 lo hi) (k0_off5_inb lo hi hc) (k0_pay1 (k0_pay33 A) (k0_pay34 w1) lo hi) G (k0_t5_loop lo hi).trips) (ix2 s d)
      = max (m.view.read (Elt Ideal) G (ix2 s d))
          (segMax (fun r : Fin 256 => (w (ix2 ⟨512 + r.val, by omega⟩ 0)).toNat) (fun r => A (ix2 ⟨512 + r.val, by omega⟩ d)) s.val) := by
  refine chunk_read m _ _ _ G (fun r => w (ix2 ⟨512 + r.val, by omega⟩ 0)) (fun r d => A (ix2 ⟨512 + r.val, by omega⟩ d)) lo hi hlo hhi
    (fun r r' h => hw _ _ (by simpa using h)) rfl (fun k => rfl) (fun k v d => ?_) s d
  pointwise [k0_pay1, k0_pay33, k0_pay34]
  simp only [hw1]

/-- the fourth: rows 768 to 1023. -/
theorem chunk4 (hlo : lo = w (ix2 768 0)) (hhi : hi = w (ix2 1023 0)) (hc : k0_chk4 lo hi) :
    m.view.read (Elt Ideal) (rowAcc m (k0_off7 lo hi) (k0_off7_inb lo hi hc) (k0_pay7 A w w1 lo hi) G (k0_t7_loop lo hi).trips) (ix2 s d)
      = max (m.view.read (Elt Ideal) G (ix2 s d))
          (segMax (fun r : Fin 256 => (w (ix2 ⟨768 + r.val, by omega⟩ 0)).toNat) (fun r => A (ix2 ⟨768 + r.val, by omega⟩ d)) s.val) := by
  refine chunk_read m _ _ _ G (fun r => w (ix2 ⟨768 + r.val, by omega⟩ 0)) (fun r d => A (ix2 ⟨768 + r.val, by omega⟩ d)) lo hi hlo hhi
    (fun r r' h => hw _ _ (by simpa using h)) rfl (fun k => rfl) (fun k v d => ?_) s d
  pointwise [k0_pay7, k0_pay3, k0_pay4, k0_pay5]
  simp only [hw1, hlo]

end Cert.KernelIdeal.Own
-- ==== Proof.IdealStep.lean ====
/- What one point of the kernel does to its three accumulators, as functions of what it finds in them: the rows' maxima,
   sums and counts taken into the segments', and at the last point the sums divided by the counts. -/
module

public import proofs.«01_k».proof.Proof.IdealChunk
public import Idealize.ShloMosaic.Lib.VecWindow

@[expose] public section

set_option maxRecDepth 16384

noncomputable section

namespace Cert.KernelIdeal.Own

open Cert.KernelIdeal Cert.KernelIdeal.Gen Cert.Words Cert.Seg
open Idealize.ShloMosaic

/-- The running maxima `g` after a block whose rows are `A` and whose segment words are the first column of `w`; -/
def maxStep (A : FVec Ideal S1024x512 .f32) (w : IVec S1024x8 32) (g : FVec Ideal S264x512 .f32) : FVec Ideal S264x512 .f32 :=
  fun j => max (g j) (segMax (fun r : Fin 1024 => (w (ix2 r 0)).toNat) (fun r => A (ix2 r (j 1))) (j 0).val)

/-- the running sums, kept for the first 256 segments; -/
def sumStep (A : FVec Ideal S1024x512 .f32) (w : IVec S1024x8 32) (g : FVec Ideal S264x512 .f32) : FVec Ideal S264x512 .f32 :=
  fun j => if (j 0).val < 256 then g j + segSum (fun r : Fin 1024 => (w (ix2 r 0)).toNat) (fun r => A (ix2 r (j 1))) (j 0).val else g j

/-- the running counts, in every column; -/
def cntStep (w : IVec S1024x8 32) (g : FVec Ideal S264x128 .f32) : FVec Ideal S264x128 .f32 :=
  fun j => if (j 0).val < 256 then g j + segSum (fun r : Fin 1024 => (w (ix2 r 0)).toNat) (fun _ => 1) (j 0).val else g j

/-- the sums divided by the counts, a count of 0 read as 1. -/
def meanStep (g : FVec Ideal S264x512 .f32) (n : FVec Ideal S264x128 .f32) : FVec Ideal S264x512 .f32 :=
  fun j => Ideal.div (g j) (max (n (ix2 (j 0) 0)) 1)

/-- What a point finds in an accumulator: at the first point the starting value `z` it has just stored. -/
def start {s : Shape} (i : grid0.Coords) (z : EReal) (g : FVec Ideal s .f32) : FVec Ideal s .f32 :=
  if (i 0).val = 0 then fun _ => z else g

theorem start_pos {s : Shape} {i : grid0.Coords} (h : (i 0).val = 0) (z : EReal) (g : FVec Ideal s .f32) : start i z g = fun _ => z := if_pos h
theorem start_neg {s : Shape} {i : grid0.Coords} (h : ¬ (i 0).val = 0) (z : EReal) (g : FVec Ideal s .f32) : start i z g = g := if_neg h

/-- The maxima a point leaves; -/
def maxOut (i : grid0.Coords) (A : FVec Ideal S1024x512 .f32) (w : IVec S1024x8 32) (g : FVec Ideal S264x512 .f32) : FVec Ideal S264x512 .f32 :=
  maxStep A w (start i ⊥ g)
/-- the counts it leaves; -/
def cntOut (i : grid0.Coords) (w : IVec S1024x8 32) (n : FVec Ideal S264x128 .f32) : FVec Ideal S264x128 .f32 :=
  cntStep w (start i 0 n)
/-- the sums it leaves, at the last point the means. -/
def sumOut (i : grid0.Coords) (A : FVec Ideal S1024x512 .f32) (w : IVec S1024x8 32) (g : FVec Ideal S264x512 .f32) (n : FVec Ideal S264x128 .f32) :
    FVec Ideal S264x512 .f32 :=
  if (i 0).val = 97 then meanStep (sumStep A w (start i 0 g)) (cntOut i w n) else sumStep A w (start i 0 g)

theorem sumOut_pos {i : grid0.Coords} (h : (i 0).val = 97) (A w g n) :
    sumOut i A w g n = meanStep (sumStep A w (start i 0 g)) (cntOut i w n) := if_pos h
theorem sumOut_neg {i : grid0.Coords} (h : ¬ (i 0).val = 97) (A w g n) : sumOut i A w g n = sumStep A w (start i 0 g) := if_neg h

/-- The starting values the first point stores. -/
theorem start_max : k0_pay10 (F := Ideal) = fun _ => (⊥ : EReal) := by
  funext j
  pointwise [k0_pay10]
  exact neg_inf
theorem start_sum : k0_pay11 (F := Ideal) = fun _ => (0 : EReal) := by
  funext j
  pointwise [k0_pay11]
theorem start_cnt : k0_pay12 (F := Ideal) = fun _ => (0 : EReal) := by
  funext j
  pointwise [k0_pay12]

theorem sumStep_apply (A : FVec Ideal S1024x512 .f32) (w : IVec S1024x8 32) (g : FVec Ideal S264x512 .f32) (s : Fin 264) (d : Fin 512) :
    sumStep A w g (ix2 s d) = if s.val < 256 then g (ix2 s d) + segSum (fun r : Fin 1024 => (w (ix2 r 0)).toNat) (fun r => A (ix2 r d)) s.val
      else g (ix2 s d) := rfl

theorem cntStep_apply (w : IVec S1024x8 32) (g : FVec Ideal S264x128 .f32) (s : Fin 264) (d : Fin 128) :
    cntStep w g (ix2 s d) = if s.val < 256 then g (ix2 s d) + segSum (fun r : Fin 1024 => (w (ix2 r 0)).toNat) (fun _ => 1) s.val
      else g (ix2 s d) := rfl

theorem meanStep_apply (g : FVec Ideal S264x512 .f32) (n : FVec Ideal S264x128 .f32) (s : Fin 264) (d : Fin 512) :
    meanStep g n (ix2 s d) = Ideal.div (g (ix2 s d)) (max (n (ix2 s 0)) 1) := rfl

/-- A buffer whose last write covers it reads as that write. -/
theorem read_full {s : Shape} (m : Memref sig .tc .vmem s .f32) (f : BufTy.Contents (Elt Ideal) m.view.ty) {off : Fin s.rank → ℕ}
    (hoff : off = fun _ => 0) (inb : ∀ a, off a + s.size a ≤ s.size a) (p : s.Idx → Elt Ideal .f32) (L : List (View.Piece (Elt Ideal) s .f32)) :
    m.view.read (Elt Ideal) (m.view.writes (Elt Ideal) f ((⟨Rect.unit off s.size inb, p⟩ : View.Piece (Elt Ideal) s .f32) :: L)) = p := by
  funext y
  exact View.read_writes_cons_unit_of_mem m.view f inb p L y y hoff fun a => by simp

/-- A load from the corner of a buffer reads the buffer there. -/
theorem readAt_corner {d : Fin 2 → ℕ} (m : Memref sig .tc .vmem (⟨2, d⟩ : Shape) .f32) (f : BufTy.Contents (Elt Ideal) m.view.ty)
    {size : Fin 2 → ℕ} (inb : ∀ a : Fin 2, (![0, 0] : Fin 2 → ℕ) a + size a ≤ d a)
    (x : (Rect.unit (s := (⟨2, d⟩ : Shape)) ![0, 0] size inb).shape.Idx) (y : (⟨2, d⟩ : Shape).Idx) (h : ∀ a : Fin 2, (y a).val = (x a).val) :
    m.view.readAt (Elt Ideal) (Rect.unit (s := (⟨2, d⟩ : Shape)) ![0, 0] size inb).toLoadRect f x = m.view.read (Elt Ideal) f y := by
  rw [View.readAt_apply]
  congr 1
  funext a
  apply Fin.ext
  rw [h a]
  show (![0, 0] : Fin 2 → ℕ) a + 1 * (x a).val = (x a).val
  fin_cases a
  · exact (Nat.zero_add _).trans (Nat.one_mul _)
  · exact (Nat.zero_add _).trans (Nat.one_mul _)

/-- The four chunks' loops, one after the other: the block's maxima. -/
theorem chunks (m : Memref sig .tc .vmem S264x512 .f32) (G : BufTy.Contents (Elt Ideal) m.view.ty) {A : FVec Ideal S1024x512 .f32}
    {w : IVec S1024x8 32} {w1 : IVec S1024x1 32} (hw : Ordered w) (hw1 : ∀ r, w1 (ix2 r 0) = w (ix2 r 0))
    {lo1 hi1 lo2 hi2 lo3 hi3 lo4 hi4 : BitVec 32} (hlo1 : lo1 = w (ix2 0 0)) (hhi1 : hi1 = w (ix2 255 0)) (hlo2 : lo2 = w (ix2 256 0))
    (hhi2 : hi2 = w (ix2 511 0)) (hlo3 : lo3 = w (ix2 512 0)) (hhi3 : hi3 = w (ix2 767 0)) (hlo4 : lo4 = w (ix2 768 0))
    (hhi4 : hi4 = w (ix2 1023 0)) (hc1 : k0_chk1 lo1 hi1) (hc2 : k0_chk2 lo2 hi2) (hc3 : k0_chk3 lo3 hi3) (hc4 : k0_chk4 lo4 hi4) :
    m.view.read (Elt Ideal) (rowAcc m (k0_off7 lo4 hi4) (k0_off7_inb lo4 hi4 hc4) (k0_pay7 A w w1 lo4 hi4)
      (rowAcc m (k0_off5 lo3 hi3) (k0_off5_inb lo3 hi3 hc3) (k0_pay1 (k0_pay33 A) (k0_pay34 w1) lo3 hi3)
      (rowAcc m (k0_off3 lo2 hi2) (k0_off3_inb lo2 hi2 hc2) (k0_pay31 A w w1 lo2 hi2)
      (rowAcc m (k0_off1 lo1 hi1) (k0_off1_inb lo1 hi1 hc1) (k0_pay25 A w w1 lo1 hi1) G (k0_t1_loop lo1 hi1).trips)
      (k0_t3_loop lo2 hi2).trips) (k0_t5_loop lo3 hi3).trips) (k0_t7_loop lo4 hi4).trips)
    = maxStep A w (m.view.read (Elt Ideal) G) := by
  funext j
  obtain ⟨s, d, rfl⟩ : ∃ (s : Fin 264) (d : Fin 512), j = ix2 s d := ⟨j 0, j 1, eq_ix2 j⟩
  rw [chunk4 m _ A w w1 hw hw1 lo4 hi4 s d hlo4 hhi4 hc4, chunk3 m _ A w w1 hw hw1 lo3 hi3 s d hlo3 hhi3 hc3,
    chunk2 m _ A w w1 hw hw1 lo2 hi2 s d hlo2 hhi2 hc2, chunk1 m _ A w w1 hw hw1 lo1 hi1 s d hlo1 hhi1 hc1]
  exact four_chunks (fun r => (w (ix2 r 0)).toNat) (fun r => A (ix2 r d)) s.val _

section Sums

variable (v3 v5 : Vec Ideal S512x512 .f32) (v7 v9 : Vec Ideal S1x512 .f32) (v11 : Vec Ideal S1024x512 .f32) (v23 : Vec Ideal S1024x8 .i32)

/-- The store of the running sums. -/
theorem sum_read (m : Memref sig .tc .vmem S264x512 .f32) (f : BufTy.Contents (Elt Ideal) m.view.ty) (L : List (View.Piece (Elt Ideal) S264x512 .f32)) :
    m.view.read (Elt Ideal) (m.view.writes (Elt Ideal) f
      ((⟨Rect.unit ![0, 0] S256x512.size inb_S264x512_S256x512_0_0, k0_pay19 (F := Ideal)
        (k0_pay17 (F := Ideal) (m.view.readAt (Elt Ideal) (Rect.unit (s := S264x512) ![0, 0] S256x512.size inb_S264x512_S256x512_0_0).toLoadRect (m.view.writes (Elt Ideal) f L)))
        (k0_pay18 v3 v5 v7 v9 v11 v23)⟩ : View.Piece (Elt Ideal) S264x512 .f32) :: L))
    = sumStep (k0_pay13 v3 v5 v7 v9 v11) v23 (m.view.read (Elt Ideal) (m.view.writes (Elt Ideal) f L)) := by
  funext j
  obtain ⟨s, d, rfl⟩ : ∃ (s : Fin 264) (d : Fin 512), j = ix2 s d := ⟨j 0, j 1, eq_ix2 j⟩
  by_cases hs : s.val < 256
  · rw [View.read_writes_cons_rows_of_mem (d := ![264, 512]) m.view _ (o := 0) inb_S264x512_S256x512_0_0 _ L (ix2 s d) (ix2 (⟨s.val, hs⟩ : Fin 256) d) rfl
      (Nat.zero_add _).symm rfl]
    rw [sumStep_apply, if_pos hs]
    generalize hA : k0_pay13 v3 v5 v7 v9 v11 = A
    generalize m.view.writes (Elt Ideal) f L = G
    pointwise [k0_pay19, k0_pay17, k0_pay18, k0_pay16, hA, k0_pay15, k0_pay14]
    rw [readAt_corner (d := ![264, 512]) m G inb_S264x512_S256x512_0_0 _ (ix2 s d) (fun a => by fin_cases a <;> rfl),
      sum_one_hot (fun r => v23 (ix2 r 0)) (fun r => A (ix2 r d)) s.val (by omega)]
  · rw [View.read_writes_cons_rows_of_not_mem (d := ![264, 512]) m.view _ (o := 0) (W := 256) inb_S264x512_S256x512_0_0 _ L (ix2 s d) rfl rfl
      (Or.inr (by simpa using hs))]
    rw [sumStep_apply, if_neg hs]

/-- The store of the running counts. -/
theorem cnt_read (m : Memref sig .tc .vmem S264x128 .f32) (f : BufTy.Contents (Elt Ideal) m.view.ty) (L : List (View.Piece (Elt Ideal) S264x128 .f32)) :
    m.view.read (Elt Ideal) (m.view.writes (Elt Ideal) f
      ((⟨Rect.unit ![0, 0] S256x128.size inb_S264x128_S256x128_0_0, k0_pay20 (F := Ideal) (k0_pay16 v3 v5 v7 v9 v11 v23)
        (m.view.readAt (Elt Ideal) (Rect.unit (s := S264x128) ![0, 0] S256x128.size inb_S264x128_S256x128_0_0).toLoadRect (m.view.writes (Elt Ideal) f L))⟩ : View.Piece (Elt Ideal) S264x128 .f32) :: L))
    = cntStep v23 (m.view.read (Elt Ideal) (m.view.writes (Elt Ideal) f L)) := by
  funext j
  obtain ⟨s, d, rfl⟩ : ∃ (s : Fin 264) (d : Fin 128), j = ix2 s d := ⟨j 0, j 1, eq_ix2 j⟩
  by_cases hs : s.val < 256
  · rw [View.read_writes_cons_rows_of_mem (d := ![264, 128]) m.view _ (o := 0) inb_S264x128_S256x128_0_0 _ L (ix2 s d) (ix2 (⟨s.val, hs⟩ : Fin 256) d) rfl
      (Nat.zero_add _).symm rfl]
    rw [cntStep_apply, if_pos hs]
    generalize hA : k0_pay13 v3 v5 v7 v9 v11 = A
    generalize m.view.writes (Elt Ideal) f L = G
    pointwise [k0_pay20, k0_pay16, hA, k0_pay15, k0_pay14]
    rw [readAt_corner (d := ![264, 128]) m G inb_S264x128_S256x128_0_0 _ (ix2 s d) (fun a => by fin_cases a <;> rfl),
      ← sum_one_hot (fun r => v23 (ix2 r 0)) (fun r => 1) s.val (by omega)]
    simp only [mul_one]
  · rw [View.read_writes_cons_rows_of_not_mem (d := ![264, 128]) m.view _ (o := 0) (W := 256) inb_S264x128_S256x128_0_0 _ L (ix2 s d) rfl rfl
      (Or.inr (by simpa using hs))]
    rw [cntStep_apply, if_neg hs]

end Sums

/-- The division at the last point. -/
theorem mean_read (m8 : Memref sig .tc .vmem S264x512 .f32) (m9 : Memref sig .tc .vmem S264x128 .f32)
    (f8 : BufTy.Contents (Elt Ideal) m8.view.ty) (f9 : BufTy.Contents (Elt Ideal) m9.view.ty) :
    k0_pay9 (F := Ideal) (m8.view.readAt (Elt Ideal) (Rect.unit (s := S264x512) ![0, 0] ![264, 512] inb_S264x512_S264x512_0_0).toLoadRect f8)
      (m9.view.readAt (Elt Ideal) (Rect.unit (s := S264x128) ![0, 0] ![264, 1] inb_S264x128_S264x1_0_0).toLoadRect f9)
    = meanStep (m8.view.read (Elt Ideal) f8) (m9.view.read (Elt Ideal) f9) := by
  funext j
  obtain ⟨s, d, rfl⟩ : ∃ (s : Fin 264) (d : Fin 512), j = ix2 s d := ⟨j 0, j 1, eq_ix2 j⟩
  rw [meanStep_apply]
  pointwise [k0_pay9]
  rw [readAt_corner (d := ![264, 512]) m8 f8 inb_S264x512_S264x512_0_0 _ (ix2 s d) (fun a => by fin_cases a <;> rfl),
    readAt_corner (d := ![264, 128]) m9 f9 inb_S264x128_S264x1_0_0 _ (ix2 s 0) (fun a => by fin_cases a <;> rfl)]

end Cert.KernelIdeal.Own
-- ==== Proof.IdealRun.lean ====
/- The kernel body run on any staging buffers whose block of segment numbers is in order: what it leaves in the three
   accumulators, index by index. -/
module

public import proofs.«01_k».proof.Proof.IdealStep

@[expose] public section

set_option maxRecDepth 16384

noncomputable section

namespace Cert.KernelIdeal.Own

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The side condition of a chunk's loops holds for words in order and at most 256. -/
theorem chk1_of (lo hi : BitVec 32) (h : lo.toNat ≤ hi.toNat) (h256 : hi.toNat ≤ 256) : k0_chk1 lo hi := by
  refine ⟨loop_ok lo hi h h256, ?_, Scf.rem_ok _ _, fun k => (Scf.rem_no_trip _ _ k).elim⟩
  intro k a
  have hk := iv_le lo hi h h256 k
  have e : (Scf.iv lo 1#32 k.val).toNat = lo.toNat + k.val := toNat_iv lo k hk
  unfold k0_off1
  fin_cases a
  · show (Scf.iv lo 1#32 k.val).toNat + 1 ≤ 264
    omega
  · show 0 + 512 ≤ 512
    omega

/-- The first chunk's first and last words, -/
theorem lo1 (v : IVec S1024x8 32) : extractAt ![0, 0] (k0_pay23 v) inpos_S1x1_p0_0 = v (ix2 0 0) := word_at v 0 slices_S1024x8_o0_0_S1x1 _
theorem hi1 (v : IVec S1024x8 32) : extractAt ![0, 0] (k0_pay24 v) inpos_S1x1_p0_0 = v (ix2 255 0) := word_at v 255 slices_S1024x8_o255_0_S1x1 _
/-- and its side condition, for a block in order. -/
theorem chk1_ordered (v : IVec S1024x8 32) (h : Ordered v) :
    k0_chk1 (extractAt ![0, 0] (k0_pay23 v) inpos_S1x1_p0_0) (extractAt ![0, 0] (k0_pay24 v) inpos_S1x1_p0_0) := by
  rw [lo1, hi1]
  exact chk1_of _ _ (h 0 255 (by decide)).1 (h 0 255 (by decide)).2
/-- The second chunk's first and last words, -/
theorem lo2 (v : IVec S1024x8 32) : extractAt ![0, 0] (k0_pay29 v) inpos_S1x1_p0_0 = v (ix2 256 0) := word_at v 256 slices_S1024x8_o256_0_S1x1 _
theorem hi2 (v : IVec S1024x8 32) : extractAt ![0, 0] (k0_pay30 v) inpos_S1x1_p0_0 = v (ix2 511 0) := word_at v 511 slices_S1024x8_o511_0_S1x1 _
/-- and its side condition, for a block in order. -/
theorem chk2_ordered (v : IVec S1024x8 32) (h : Ordered v) :
    k0_chk2 (extractAt ![0, 0] (k0_pay29 v) inpos_S1x1_p0_0) (extractAt ![0, 0] (k0_pay30 v) inpos_S1x1_p0_0) := by
  rw [lo2, hi2]
  exact chk1_of _ _ (h 256 511 (by decide)).1 (h 256 511 (by decide)).2
/-- The third chunk's first and last words, -/
theorem lo3 (v : IVec S1024x8 32) : extractAt ![0, 0] (k0_pay35 v) inpos_S1x1_p0_0 = v (ix2 512 0) := word_at v 512 slices_S1024x8_o512_0_S1x1 _
theorem hi3 (v : IVec S1024x8 32) : extractAt ![0, 0] (k0_pay36 v) inpos_S1x1_p0_0 = v (ix2 767 0) := word_at v 767 slices_S1024x8_o767_0_S1x1 _
/-- and its side condition, for a block in order. -/
theorem chk3_ordered (v : IVec S1024x8 32) (h : Ordered v) :
    k0_chk3 (extractAt ![0, 0] (k0_pay35 v) inpos_S1x1_p0_0) (extractAt ![0, 0] (k0_pay36 v) inpos_S1x1_p0_0) := by
  rw [lo3, hi3]
  exact chk1_of _ _ (h 512 767 (by decide)).1 (h 512 767 (by decide)).2
/-- The fourth chunk's first and last words, -/
theorem lo4 (v : IVec S1024x8 32) : extractAt ![0, 0] (k0_pay5 v) inpos_S1x1_p0_0 = v (ix2 768 0) := word_at v 768 slices_S1024x8_o768_0_S1x1 _
theorem hi4 (v : IVec S1024x8 32) : extractAt ![0, 0] (k0_pay6 v) inpos_S1x1_p0_0 = v (ix2 1023 0) := word_at v 1023 slices_S1024x8_o1023_0_S1x1 _
/-- and its side condition, for a block in order. -/
theorem chk4_ordered (v : IVec S1024x8 32) (h : Ordered v) :
    k0_chk4 (extractAt ![0, 0] (k0_pay5 v) inpos_S1x1_p0_0) (extractAt ![0, 0] (k0_pay6 v) inpos_S1x1_p0_0) := by
  rw [lo4, hi4]
  exact chk1_of _ _ (h 768 1023 (by decide)).1 (h 768 1023 (by decide)).2

/-- The kernel's test of the point's number against a small word. -/
theorem point_is (b : BitVec 32) (n : ℕ) (h : ∀ k : Fin 98, ((Scalar.cmpi .ne (Scalar.extui (Scalar.cmpi .eq (BitVec.ofNat 32 k.val) b)) 0#32) = 1#1 ↔ k.val = n))
    (i : grid0.Coords) : (Scalar.cmpi .ne (Scalar.extui (Scalar.cmpi .eq (BitVec.ofNat 32 (i 0).val) b)) 0#32) = 1#1 ↔ (i 0).val = n := h (i 0)

theorem zero2 : (![0, 0] : Fin 2 → ℕ) = fun _ => 0 := by funext a; fin_cases a <;> rfl

local notation "𝕄" => MT nD τ sig Unit (Elt Ideal) ℕ (UR sig nD τ) ℕ

section Run

variable (c : Dev nD) (i : grid0.Coords) (arg1 : Memref sig .tc .vmem S1024x512 .f32) (harg1 : arg1.IsWhole) (arg2 : Memref sig .tc .vmem S1024x8 .i32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S264x512 .f32) (harg7 : arg7.IsWhole) (arg8 : Memref sig .tc .vmem S264x512 .f32) (harg8 : arg8.IsWhole) (arg9 : Memref sig .tc .vmem S264x128 .f32) (harg9 : arg9.IsWhole)

/-- What the body holds of its staging buffers. -/
def held (x0 : Vec Ideal S1024x512 .f32) (x1 : Vec Ideal S1024x8 .i32) (x2 : Vec Ideal S512x512 .f32) (x3 : Vec Ideal S1x512 .f32)
    (x4 : Vec Ideal S512x512 .f32) (x5 : Vec Ideal S1x512 .f32) (x6 x7 : Vec Ideal S264x512 .f32) (x8 : Vec Ideal S264x128 .f32) : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare x4 ∗ owns (c : Thread nD τ) arg6 fullShare x5
    ∗ owns (c : Thread nD τ) arg7 fullShare x6 ∗ owns (c : Thread nD τ) arg8 fullShare x7
    ∗ owns (c : Thread nD τ) arg9 fullShare x8)

set_option maxHeartbeats 4000000 in
/-- The body at point `i`, its block of segment numbers in order: the accumulators as that point leaves them. -/
theorem run (x0 : Vec Ideal S1024x512 .f32) (x1 : Vec Ideal S1024x8 .i32) (x2 : Vec Ideal S512x512 .f32) (x3 : Vec Ideal S1x512 .f32)
    (x4 : Vec Ideal S512x512 .f32) (x5 : Vec Ideal S1x512 .f32) (x6 x7 : Vec Ideal S264x512 .f32) (x8 : Vec Ideal S264x128 .f32) (hx : Ordered x1) (E : Set ℕ) (K : PUnit → sProp 𝕄) :
    iprop(held c arg1 arg2 arg3 arg4 arg5 arg6 arg7 arg8 arg9 x0 x1 x2 x3 x4 x5 x6 x7 x8
        ∗ (held c arg1 arg2 arg3 arg4 arg5 arg6 arg7 arg8 arg9 x0 x1 x2 x3 x4 x5 (maxOut i (k0_pay13 x2 x4 x3 x5 x0) x1 x6)
            (sumOut i (k0_pay13 x2 x4 x3 x5 x0) x1 x7 x8) (cntOut i x1 x8) -∗ K ⟨⟩))
      ⊢ wp frame (wpE (defs₀ (F := Ideal)) Variants.none c none) E (cc0__body i arg1 harg1 arg2 harg2 arg3 harg3 arg4 harg4 arg5 harg5 arg6 harg6 arg7 harg7 arg8 harg8 arg9 harg9) K := by
  have r1 : (View.readAt (Elt Ideal) arg1.view (Rect.unit (s := S1024x512) ![0, 0] S1024x512.size inb_S1024x512_S1024x512_0_0).toLoadRect (harg1.unread x0)) = x0 := (View.readAt_full _ _ _).trans (harg1.read_unread x0)
  have r2 : (View.readAt (Elt Ideal) arg2.view (Rect.unit (s := S1024x8) ![0, 0] S1024x8.size inb_S1024x8_S1024x8_0_0).toLoadRect (harg2.unread x1)) = x1 := (View.readAt_full _ _ _).trans (harg2.read_unread x1)
  have r3 : (View.readAt (Elt Ideal) arg3.view (Rect.unit (s := S512x512) ![0, 0] S512x512.size inb_S512x512_S512x512_0_0).toLoadRect (harg3.unread x2)) = x2 := (View.readAt_full _ _ _).trans (harg3.read_unread x2)
  have r4 : (View.readAt (Elt Ideal) arg4.view (Rect.unit (s := S1x512) ![0, 0] S1x512.size inb_S1x512_S1x512_0_0).toLoadRect (harg4.unread x3)) = x3 := (View.readAt_full _ _ _).trans (harg4.read_unread x3)
  have r5 : (View.readAt (Elt Ideal) arg5.view (Rect.unit (s := S512x512) ![0, 0] S512x512.size inb_S512x512_S512x512_0_0).toLoadRect (harg5.unread x4)) = x4 := (View.readAt_full _ _ _).trans (harg5.read_unread x4)
  have r6 : (View.readAt (Elt Ideal) arg6.view (Rect.unit (s := S1x512) ![0, 0] S1x512.size inb_S1x512_S1x512_0_0).toLoadRect (harg6.unread x5)) = x5 := (View.readAt_full _ _ _).trans (harg6.read_unread x5)
  have hw : k0_pay14 (F := Ideal) x1 = x1 := shapeCast_self _ _
  have hw1 : ∀ r, k0_pay15 (F := Ideal) x1 (ix2 r 0) = k0_pay14 (F := Ideal) x1 (ix2 r 0) := fun r => by pointwise [k0_pay15, k0_pay14]
  have hx' : Ordered (k0_pay14 (F := Ideal) x1) := by rw [hw]; exact hx
  have hk1 := chk1_ordered _ hx'
  have hk2 := chk2_ordered _ hx'
  have hk3 := chk3_ordered _ hx'
  have hk4 := chk4_ordered _ hx'
  simp only [cc0__body_eq_skeleton]; unfold cc0__body_skel
  simp only [k0_part1_eq_skeleton, k0_part2_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg7.eq_unread hf6; obtain rfl := harg8.eq_unread hf7; obtain rfl := harg9.eq_unread hf8
  by_cases hc0 : (Scalar.cmpi .ne (Scalar.extui (Scalar.cmpi .eq (BitVec.ofNat 32 (i 0).val) 0#32)) 0#32) = 1#1 <;>
  by_cases hc1 : (Scalar.cmpi .ne (Scalar.extui (Scalar.cmpi .eq (BitVec.ofNat 32 (i 0).val) 97#32)) 0#32) = 1#1
  all_goals
    have h0 := hc0
    rw [point_is 0#32 0 (by decide)] at h0
    have h1 := hc1
    rw [point_is 97#32 97 (by decide)] at h1
    sl_exec (disch := first | sl_exact hc0 | sl_exact hc1 | sl_exact hk1 | sl_exact hk2 | sl_exact hk3 | sl_exact hk4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      simp only [View.writes_append]
      refine (chunks arg7 _ hx' hw1 (lo1 _) (hi1 _) (lo2 _) (hi2 _) (lo3 _) (hi3 _) (lo4 _) (hi4 _) hk1 hk2 hk3 hk4).trans ?_
      unfold maxOut
      refine congr (congrArg (maxStep _) hw) ?_
      first
        | rw [start_neg h0 ⊥ x6]; exact harg7.read_unread x6
        | rw [start_pos h0 ⊥ x6]; exact (read_full arg7 _ zero2 _ _ _).trans start_max
    isplitl [H7]
    · iexists _; isplitr; swap; · iexact H7
      ipureintro
      first
        | rw [sumOut_neg h1]
          refine (sum_read _ _ _ _ _ _ arg8 _ _).trans (congrArg (sumStep _ _) ?_)
          first
            | rw [start_neg h0 0 x7]; exact harg8.read_unread x7
            | rw [start_pos h0 0 x7]; exact (read_full arg8 _ zero2 _ _ _).trans start_sum
        | rw [sumOut_pos h1]
          refine (read_full arg8 _ zero2 _ _ _).trans ((mean_read arg8 arg9 _ _).trans (congr (congrArg meanStep ?_) ?_))
          · refine (sum_read _ _ _ _ _ _ arg8 _ _).trans (congrArg (sumStep _ _) ?_)
            first
              | rw [start_neg h0 0 x7]; exact harg8.read_unread x7
              | rw [start_pos h0 0 x7]; exact (read_full arg8 _ zero2 _ _ _).trans start_sum
          · refine (cnt_read _ _ _ _ _ _ arg9 _ _).trans (congrArg (cntStep _) ?_)
            first
              | rw [start_neg h0 0 x8]; exact harg9.read_unread x8
              | rw [start_pos h0 0 x8]; exact (read_full arg9 _ zero2 _ _ _).trans start_cnt
    iexists _; isplitr; swap; · iexact H8
    ipureintro
    refine (cnt_read _ _ _ _ _ _ arg9 _ _).trans (congrArg (cntStep _) ?_)
    first
      | rw [start_neg h0 0 x8]; exact harg9.read_unread x8
      | rw [start_pos h0 0 x8]; exact (read_full arg9 _ zero2 _ _ _).trans start_cnt

end Run

end Cert.KernelIdeal.Own
-- ==== Proof.Row.lean ====
/- The gated features of a row: one row of the input through two linear layers, the first cut off below at 0, the second
   through the logistic function, and the two multiplied. -/
module

public import Idealize.ShloMosaic.Lib.Pointwise

@[expose] public section

noncomputable section

namespace Cert.Seg

open Idealize.ShloMosaic

/-- The parameters of the two layers: each a matrix, output by input, and a bias. -/
structure Layers where
  w1 : FVec Ideal ⟨2, ![512, 512]⟩ .f32
  b1 : FVec Ideal ⟨1, ![512]⟩ .f32
  w2 : FVec Ideal ⟨2, ![512, 512]⟩ .f32
  b2 : FVec Ideal ⟨1, ![512]⟩ .f32

/-- Feature `d` of the first layer at the row `x`. -/
def hidden (L : Layers) (x : Fin 512 → EReal) (d : Fin 512) : EReal := max (∑ k, x k * L.w1 (ix2 d k) + L.b1 (ix1 d)) 0

/-- Feature `d` of the gated row. -/
def gated (L : Layers) (x : Fin 512 → EReal) (d : Fin 512) : EReal :=
  hidden L x d * Ideal.logistic (∑ k, hidden L x k * L.w2 (ix2 d k) + L.b2 (ix1 d))

/-- Row `n` of the input, padded with rows of zeros. -/
def row (x : FVec Ideal ⟨2, ![100000, 512]⟩ .f32) (n : ℕ) (k : Fin 512) : EReal :=
  if h : n < 100000 then x (ix2 ⟨n, h⟩ k) else Ideal.ofBits .f32 0#32

end Cert.Seg

end
-- ==== Proof.IdealEntry.lean ====
/- What a grid point of the idealized kernel reads, as functions of the arguments: its block of segment words, and the
   gated features of its block of rows. -/
module

public import proofs.«01_k».proof.Proof.Gen.KernelIdeal.Frame
public import proofs.«01_k».proof.Proof.Gen.KernelIdeal.Skeleton
public import proofs.«01_k».proof.Proof.Pre
public import proofs.«01_k».proof.Proof.Row
public import Idealize.ShloMosaic.Lib.Claim
public import Idealize.ShloMosaic.Lib.StableHlo.ReadAt
public import Idealize.ShloMosaic.Lib.Pipeline.Value

@[expose] public section

noncomputable section

namespace Cert.KernelIdeal.Own

open Idealize.ShloMosaic Idealize.ShloMosaic.TcCoe Idealize.ShloMosaic.Tactic
open Cert.KernelIdeal.Gen

variable (m : (ℓ : Loc nD τ sig) → Buf (Elt Ideal) ℓ)

/-- The layers' parameters of a launch. -/
abbrev layers (c : Dev nD) : Seg.Layers :=
  ⟨m ((c : Thread nD τ).loc main_arg2), m ((c : Thread nD τ).loc main_arg3), m ((c : Thread nD τ).loc main_arg4), m ((c : Thread nD τ).loc main_arg5)⟩

/-- The segment number of row `n` of a launch; -/
abbrev seg (c : Dev nD) (n : ℕ) : ℕ := (Seg.word (m ((c : Thread nD τ).loc main_arg1)) n).toNat

/-- its gated features. -/
abbrev feat (c : Dev nD) (d : Fin 512) (n : ℕ) : EReal := Seg.gated (layers m c) (Seg.row (m ((c : Thread nD τ).loc main_arg0)) n) d

/-- The padded segment words as the region finds them, in each of 8 columns; -/
theorem V_ids (c : Dev nD) (r : Fin 100352) (k : Fin 8) :
    (V m c main_v5 : IVec S100352x8 32) (ix2 r k) = Seg.word (m ((c : Thread nD τ).loc main_arg1)) r.val := by
  unfold V V0 Seg.word
  simp only [List.flatten_cons, List.flatten_nil, List.append_nil]
  after_reads_at
  rfl

/-- the padded rows; -/
theorem V_rows (c : Dev nD) (r : Fin 100352) (k : Fin 512) :
    (V m c main_v1 : FVec Ideal S100352x512 .f32) (ix2 r k) = Seg.row (m ((c : Thread nD τ).loc main_arg0)) r.val k := by
  unfold V V0 Seg.row
  simp only [List.flatten_cons, List.flatten_nil, List.append_nil]
  after_reads_at

/-- the first layer's matrix, input by output; -/
theorem V_w1 (c : Dev nD) (k d : Fin 512) : (V m c main_v6 : FVec Ideal S512x512 .f32) (ix2 k d) = (layers m c).w1 (ix2 d k) := by
  unfold V V0
  simp only [List.flatten_cons, List.flatten_nil, List.append_nil]
  after_reads_at

/-- its bias; -/
theorem V_b1 (c : Dev nD) (d : Fin 512) : (V m c main_v7 : FVec Ideal S1x512 .f32) (ix2 0 d) = (layers m c).b1 (ix1 d) := by
  unfold V V0
  simp only [List.flatten_cons, List.flatten_nil, List.append_nil]
  after_reads_at

/-- the second layer's matrix; -/
theorem V_w2 (c : Dev nD) (k d : Fin 512) : (V m c main_v8 : FVec Ideal S512x512 .f32) (ix2 k d) = (layers m c).w2 (ix2 d k) := by
  unfold V V0
  simp only [List.flatten_cons, List.flatten_nil, List.append_nil]
  after_reads_at

/-- its bias. -/
theorem V_b2 (c : Dev nD) (d : Fin 512) : (V m c main_v9 : FVec Ideal S1x512 .f32) (ix2 0 d) = (layers m c).b2 (ix1 d) := by
  unfold V V0
  simp only [List.flatten_cons, List.flatten_nil, List.append_nil]
  after_reads_at

/-- A grid coordinate, read as an index of blocks, is the point's number. -/
theorem coord_toNat (t : Fin cfg0.N) : (BitVec.ofNat 32 (grid0.coords t 0).val).toNat = t.val := by
  have ht : t.val < 98 := Nat.lt_of_lt_of_eq t.isLt N_0
  rw [show (grid0.coords t 0).val = t.val / 1 % 98 from Pipeline.Grid.coords_val t 0 (by decide) rfl, WordCmp.toNat_ofNat_of_lt (by omega)]
  omega

/-- The block of segment words at point `t`: rows `1024 t` to `1024 t + 1023`; -/
theorem ids_block (c : Dev nD) (t : Fin cfg0.N) (r : Fin 1024) (k : Fin 8) :
    (iblk m c 1 t : IVec S1024x8 32) (ix2 r k) = Seg.word (m ((c : Thread nD τ).loc main_arg1)) (1024 * t.val + r.val) := by
  have ht : t.val < 98 := Nat.lt_of_lt_of_eq t.isLt N_0
  have hi : win0_1.index t 0 = t.val ∧ win0_1.index t 1 = 0 := ⟨coord_toNat t, rfl⟩
  rw [← V_ids m c ⟨1024 * t.val + r.val, by omega⟩ k]
  unfold iblk
  rw [View.read_apply]
  show V m c main_v5 _ = V m c main_v5 _
  congr 1
  funext a
  apply Fin.ext
  match a with
  | ⟨0, _⟩ => show win0_1.index t 0 * 1024 + 1 * r.val = 1024 * t.val + r.val; rw [hi.1]; omega
  | ⟨1, _⟩ => show win0_1.index t 1 * 8 + 1 * k.val = k.val; rw [hi.2]; omega

/-- the same rows of the input. -/
theorem rows_block (c : Dev nD) (t : Fin cfg0.N) (r : Fin 1024) (k : Fin 512) :
    (iblk m c 0 t : FVec Ideal S1024x512 .f32) (ix2 r k) = Seg.row (m ((c : Thread nD τ).loc main_arg0)) (1024 * t.val + r.val) k := by
  have ht : t.val < 98 := Nat.lt_of_lt_of_eq t.isLt N_0
  have hi : win0_0.index t 0 = t.val ∧ win0_0.index t 1 = 0 := ⟨coord_toNat t, rfl⟩
  rw [← V_rows m c ⟨1024 * t.val + r.val, by omega⟩ k]
  unfold iblk
  rw [View.read_apply]
  show V m c main_v1 _ = V m c main_v1 _
  congr 1
  funext a
  apply Fin.ext
  match a with
  | ⟨0, _⟩ => show win0_0.index t 0 * 1024 + 1 * r.val = 1024 * t.val + r.val; rw [hi.1]; omega
  | ⟨1, _⟩ => show win0_0.index t 1 * 512 + 1 * k.val = k.val; rw [hi.2]; omega

/-- The four parameter arrays are each one block. -/
theorem w1_block (c : Dev nD) (t : Fin cfg0.N) : (iblk m c 2 t : FVec Ideal S512x512 .f32) = V m c main_v6 :=
  Memref.read_access_unit_zero (Elt Ideal) main_v6 (funext fun a => by fin_cases a <;> rfl) _ (V m c main_v6)
theorem b1_block (c : Dev nD) (t : Fin cfg0.N) : (iblk m c 3 t : FVec Ideal S1x512 .f32) = V m c main_v7 :=
  Memref.read_access_unit_zero (Elt Ideal) main_v7 (funext fun a => by fin_cases a <;> rfl) _ (V m c main_v7)
theorem w2_block (c : Dev nD) (t : Fin cfg0.N) : (iblk m c 4 t : FVec Ideal S512x512 .f32) = V m c main_v8 :=
  Memref.read_access_unit_zero (Elt Ideal) main_v8 (funext fun a => by fin_cases a <;> rfl) _ (V m c main_v8)
theorem b2_block (c : Dev nD) (t : Fin cfg0.N) : (iblk m c 5 t : FVec Ideal S1x512 .f32) = V m c main_v9 :=
  Memref.read_access_unit_zero (Elt Ideal) main_v9 (funext fun a => by fin_cases a <;> rfl) _ (V m c main_v9)

/-- The features the body computes from the layers' parameters and a row are the gated row. -/
theorem pay_gated (L : Seg.Layers) (x : Fin 512 → EReal) (v3 v5 : FVec Ideal S512x512 .f32) (v7 v9 : FVec Ideal S1x512 .f32) (v11 : FVec Ideal S1024x512 .f32)
    (h3 : ∀ k d, v3 (ix2 k d) = L.w1 (ix2 d k)) (h7 : ∀ d, v7 (ix2 0 d) = L.b1 (ix1 d)) (h5 : ∀ k d, v5 (ix2 k d) = L.w2 (ix2 d k))
    (h9 : ∀ d, v9 (ix2 0 d) = L.b2 (ix1 d)) (r : Fin 1024) (h11 : ∀ k, v11 (ix2 r k) = x k) (d : Fin 512) :
    k0_pay13 (F := Ideal) v3 v5 v7 v9 v11 (ix2 r d) = Seg.gated L x d := by
  unfold Seg.gated Seg.hidden
  pointwise [k0_pay13]
  simp only [h3, h7, h5, h9, h11]

/-- The gated features that the body computes from its blocks. -/
abbrev block (c : Dev nD) (t : Fin cfg0.N) : FVec Ideal S1024x512 .f32 :=
  k0_pay13 (iblk m c 2 t) (iblk m c 4 t) (iblk m c 3 t) (iblk m c 5 t) (iblk m c 0 t)

/-- They are the rows' own. -/
theorem block_apply (c : Dev nD) (t : Fin cfg0.N) (r : Fin 1024) (d : Fin 512) :
    block m c t (ix2 r d) = feat m c d (1024 * t.val + r.val) := by
  unfold block
  rw [w1_block, b1_block, w2_block, b2_block]
  exact pay_gated _ _ _ _ _ _ _ (V_w1 m c) (V_b1 m c) (V_w2 m c) (V_b2 m c) r (rows_block m c t r) d

end Cert.KernelIdeal.Own

end
-- ==== Proof.IdealAcc.lean ====
/- What the kernel's three accumulators hold after each grid point: the maxima, sums and counts over all rows up to and
   including the point's block, and after the last point the means in place of the sums. -/
module

public import proofs.«01_k».proof.Proof.IdealStep
public import proofs.«01_k».proof.Proof.IdealEntry

@[expose] public section

noncomputable section

namespace Cert.KernelIdeal.Own

open Idealize.ShloMosaic Idealize.ShloMosaic.TcCoe
open Cert.KernelIdeal.Gen Cert.Seg

variable (m : (ℓ : Loc nD τ sig) → Buf (Elt Ideal) ℓ) (c : Dev nD)

/-- The maxima after point `n`; -/
def accMax (n : ℕ) : FVec Ideal S264x512 .f32 := fun j => upMax (seg m c) (feat m c (j 1)) (1024 * (n + 1)) (j 0).val
/-- the sums, of the first 256 segments; -/
def accSum (n : ℕ) : FVec Ideal S264x512 .f32 :=
  fun j => if (j 0).val < 256 then upSum (seg m c) (feat m c (j 1)) (1024 * (n + 1)) (j 0).val else 0
/-- the counts; -/
def accCnt (n : ℕ) : FVec Ideal S264x128 .f32 :=
  fun j => if (j 0).val < 256 then upSum (seg m c) (fun _ => 1) (1024 * (n + 1)) (j 0).val else 0
/-- what is left in the sums' buffer: at the last point the means. -/
def outSum (n : ℕ) : FVec Ideal S264x512 .f32 := if n = 97 then meanStep (accSum m c n) (accCnt m c n) else accSum m c n

theorem outSum_last : outSum m c 97 = meanStep (accSum m c 97) (accCnt m c 97) := if_pos rfl
theorem outSum_of_ne {n : ℕ} (h : n ≠ 97) : outSum m c n = accSum m c n := if_neg h

theorem accMax_apply (n : ℕ) (s : Fin 264) (d : Fin 512) :
    accMax m c n (ix2 s d) = upMax (seg m c) (feat m c d) (1024 * (n + 1)) s.val := rfl
theorem accSum_apply (n : ℕ) (s : Fin 264) (d : Fin 512) :
    accSum m c n (ix2 s d) = if s.val < 256 then upSum (seg m c) (feat m c d) (1024 * (n + 1)) s.val else 0 := rfl
theorem accCnt_apply (n : ℕ) (s : Fin 264) (d : Fin 128) :
    accCnt m c n (ix2 s d) = if s.val < 256 then upSum (seg m c) (fun _ => 1) (1024 * (n + 1)) s.val else 0 := rfl

/-- The one grid coordinate of a point is its number. -/
theorem coord_val (t : Fin cfg0.N) : (grid0.coords t 0).val = t.val := by
  have ht : t.val < 98 := Nat.lt_of_lt_of_eq t.isLt N_0
  rw [show (grid0.coords t 0).val = t.val / 1 % 98 from Pipeline.Grid.coords_val t 0 (by decide) rfl]
  omega

/-- The segment numbers of a point's block. -/
theorem ids_seg (t : Fin cfg0.N) : (fun r : Fin 1024 => ((iblk m c 1 t : IVec S1024x8 32) (ix2 r 0)).toNat) = fun r : Fin 1024 => seg m c (1024 * t.val + r.val) :=
  funext fun r => congrArg BitVec.toNat (ids_block m c t r 0)

/-- The maxima after a point, given those before it. -/
theorem maxOut_eq (t : Fin cfg0.N) (g : FVec Ideal S264x512 .f32) (hg : t.val ≠ 0 → g = accMax m c (t.val - 1)) :
    maxOut (grid0.coords t) (block m c t) (iblk m c 1 t) g = accMax m c t.val := by
  funext j
  obtain ⟨s, d, rfl⟩ : ∃ (s : Fin 264) (d : Fin 512), j = ix2 s d := ⟨j 0, j 1, eq_ix2 j⟩
  show max (start (grid0.coords t) ⊥ g (ix2 s d)) (segMax _ (fun r => block m c t (ix2 r d)) s.val) = upMax (seg m c) (feat m c d) (1024 * (t.val + 1)) s.val
  rw [ids_seg, show (fun r : Fin 1024 => block m c t (ix2 r d)) = fun r : Fin 1024 => feat m c d (1024 * t.val + r.val) from
    funext fun r => block_apply m c t r d, Nat.mul_succ, upMax_add]
  congr 1
  by_cases h0 : t.val = 0
  · rw [start_pos ((coord_val t).trans h0), h0]
    exact (upMax_zero _ _ _).symm
  · rw [start_neg (fun e => h0 ((coord_val t).symm.trans e)), hg h0]
    show upMax _ _ (1024 * (t.val - 1 + 1)) _ = _
    rw [Nat.sub_add_cancel (Nat.pos_of_ne_zero h0)]
    rfl

/-- The sums after a point's block, given those before it. -/
theorem sumStep_eq (t : Fin cfg0.N) (g : FVec Ideal S264x512 .f32) (hg : t.val ≠ 0 → g = accSum m c (t.val - 1)) :
    sumStep (block m c t) (iblk m c 1 t) (start (grid0.coords t) 0 g) = accSum m c t.val := by
  have h : start (grid0.coords t) 0 g = fun j => if (j 0).val < 256 then upSum (seg m c) (feat m c (j 1)) (1024 * t.val) (j 0).val else 0 := by
    by_cases h0 : t.val = 0
    · rw [start_pos ((coord_val t).trans h0), h0]
      exact funext fun j => (ite_self _).symm
    · rw [start_neg (fun e => h0 ((coord_val t).symm.trans e)), hg h0]
      unfold accSum
      rw [Nat.sub_add_cancel (Nat.pos_of_ne_zero h0)]
  funext j
  obtain ⟨s, d, rfl⟩ : ∃ (s : Fin 264) (d : Fin 512), j = ix2 s d := ⟨j 0, j 1, eq_ix2 j⟩
  rw [h, sumStep_apply, ids_seg, show (fun r : Fin 1024 => block m c t (ix2 r d)) = fun r : Fin 1024 => feat m c d (1024 * t.val + r.val) from
    funext fun r => block_apply m c t r d]
  show _ = if s.val < 256 then upSum (seg m c) (feat m c d) (1024 * (t.val + 1)) s.val else 0
  by_cases hs : s.val < 256
  · rw [if_pos hs, if_pos hs, Nat.mul_succ, upSum_add]
    exact congrArg (· + _) (if_pos hs)
  · rw [if_neg hs, if_neg hs]
    exact if_neg hs

/-- The counts after a point. -/
theorem cntOut_eq (t : Fin cfg0.N) (g : FVec Ideal S264x128 .f32) (hg : t.val ≠ 0 → g = accCnt m c (t.val - 1)) :
    cntOut (grid0.coords t) (iblk m c 1 t) g = accCnt m c t.val := by
  have h : start (grid0.coords t) 0 g = fun j => if (j 0).val < 256 then upSum (seg m c) (fun _ => 1) (1024 * t.val) (j 0).val else 0 := by
    by_cases h0 : t.val = 0
    · rw [start_pos ((coord_val t).trans h0), h0]
      exact funext fun j => (ite_self _).symm
    · rw [start_neg (fun e => h0 ((coord_val t).symm.trans e)), hg h0]
      unfold accCnt
      rw [Nat.sub_add_cancel (Nat.pos_of_ne_zero h0)]
  funext j
  obtain ⟨s, d, rfl⟩ : ∃ (s : Fin 264) (d : Fin 128), j = ix2 s d := ⟨j 0, j 1, eq_ix2 j⟩
  unfold cntOut
  rw [h, cntStep_apply, ids_seg]
  show _ = if s.val < 256 then upSum (seg m c) (fun _ => 1) (1024 * (t.val + 1)) s.val else 0
  by_cases hs : s.val < 256
  · rw [if_pos hs, if_pos hs, Nat.mul_succ, upSum_add]
    exact congrArg (· + _) (if_pos hs)
  · rw [if_neg hs, if_neg hs]
    exact if_neg hs

/-- What a point leaves in the sums' buffer. -/
theorem sumOut_eq (t : Fin cfg0.N) (g : FVec Ideal S264x512 .f32) (n : FVec Ideal S264x128 .f32)
    (hg : t.val ≠ 0 → g = outSum m c (t.val - 1)) (hn : t.val ≠ 0 → n = accCnt m c (t.val - 1)) :
    sumOut (grid0.coords t) (block m c t) (iblk m c 1 t) g n = outSum m c t.val := by
  have ht : t.val < 98 := Nat.lt_of_lt_of_eq t.isLt N_0
  have hg' : t.val ≠ 0 → g = accSum m c (t.val - 1) := fun h => (hg h).trans (outSum_of_ne m c (by omega))
  by_cases h : t.val = 97
  · rw [sumOut_pos ((coord_val t).trans h), sumStep_eq m c t g hg', cntOut_eq m c t n hn]
    exact (if_pos h).symm
  · rw [sumOut_neg (fun e => h ((coord_val t).symm.trans e)), sumStep_eq m c t g hg', outSum_of_ne m c h]

end Cert.KernelIdeal.Own

end
-- ==== Proof.IdealFrame.lean ====
/- The idealized kernel, from any memory whose segment words are sorted: its launch, and what its arrays hold when it has
   ended. -/
module

public import proofs.«01_k».proof.Proof.IdealRun
public import proofs.«01_k».proof.Proof.IdealAcc

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The proof data: each input's buffer holds its block after the body, each result's its accumulator. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accMax m c t.val
    | ⟨7, _⟩ => outSum m c t.val
    | ⟨8, _⟩ => accCnt m c t.val
  Φ _ := Pipeline.ΦA spec0 c
  q _ := fullShare
  owed _ := 0

theorem A_eq (c : Dev nD) (w : Fin cfg0.W) : (dats m 0 c).A w = V m c (Pipeline.arrRef spec0 w) := by
  dsimp only [dats]

/-- Each input's buffer holds its block when the body starts. -/
theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d

/-- After the first point each result's buffer holds what the point before left in it. -/
theorem before_6 (c : Dev nD) (t : Fin cfg0.N) (h : t.val ≠ 0) (d) : (dats m 0 c).before 6 t d = accMax m c (t.val - 1) := by
  have ht : t.val < 98 := Nat.lt_of_lt_of_eq t.isLt N_0
  rw [(dats m 0 c).before_out_kept 6 rfl t h (Bool.eq_false_iff.mpr fun hf => by have := (flush0_6 _).mp hf; dsimp only at this; omega)
    (fun _ => rfl) (fun _ _ => rfl) d]
  rfl
theorem before_7 (c : Dev nD) (t : Fin cfg0.N) (h : t.val ≠ 0) (d) : (dats m 0 c).before 7 t d = outSum m c (t.val - 1) := by
  have ht : t.val < 98 := Nat.lt_of_lt_of_eq t.isLt N_0
  rw [(dats m 0 c).before_out_kept 7 rfl t h (Bool.eq_false_iff.mpr fun hf => by have := (flush0_7 _).mp hf; dsimp only at this; omega)
    (fun _ => rfl) (fun _ _ => rfl) d]
  rfl
theorem before_8 (c : Dev nD) (t : Fin cfg0.N) (h : t.val ≠ 0) (d) : (dats m 0 c).before 8 t d = accCnt m c (t.val - 1) := by
  have ht : t.val < 98 := Nat.lt_of_lt_of_eq t.isLt N_0
  rw [(dats m 0 c).before_out_kept 8 rfl t h (Bool.eq_false_iff.mpr fun hf => by have := (flush0_8 _).mp hf; dsimp only at this; omega)
    (fun _ => rfl) (fun _ _ => rfl) d]
  rfl

/-- What the body has at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it leaves. -/
def bodyPost (c : Dev nD) (t : Fin cfg0.N) : sProp 𝕄 :=
  iprop((dats m 0 c).Φ t.castSucc ∗ (dats m 0 c).owesAt () t.castSucc
    ∗ held c (st0_0 t) (st0_1 t) (st0_2 t) (st0_3 t) (st0_4 t) (st0_5 t) (st0_6 t) (st0_7 t) (st0_8 t)
        (iblk m c 0 t) (iblk m c 1 t) (iblk m c 2 t) (iblk m c 3 t) (iblk m c 4 t) (iblk m c 5 t)
        (accMax m c t.val) (outSum m c t.val) (accCnt m c t.val))

/-- The block of segment words at a point is in order. -/
theorem ids_ordered (hs : ∀ c : Dev nD, Seg.Sorted (m ((c : Thread nD τ).loc main_arg1))) (c : Dev nD) (t : Fin cfg0.N) :
    Words.Ordered (iblk m c 1 t : IVec S1024x8 32) :=
  Seg.ordered_block _ (hs c) _ t.val fun r => ids_block m c t r 0

/-- The body at a point. -/
theorem sound_body (hs : ∀ c : Dev nD, Seg.Sorted (m ((c : Thread nD τ).loc main_arg1))) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← maxOut_eq m c t ((dats m 0 c).before 6 t d6) fun h => before_6 m c t h d6,
    ← sumOut_eq m c t ((dats m 0 c).before 7 t d7) ((dats m 0 c).before 8 t d8) (fun h => before_7 m c t h d7) (fun h => before_8 m c t h d8),
    ← cntOut_eq m c t ((dats m 0 c).before 8 t d8) fun h => before_8 m c t h d8]
  iapply (run c (grid0.coords t) _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) ((dats m 0 c).before 8 t d8) (ids_ordered m hs c t) Set.univ _)
  isplitl [H0 H1 H2 H3 H4 H5 H6 H7 H8]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro H
  isplitl [HΦ]; · iexact HΦ
  isplitl [Ho]; · iexact Ho
  iexact H

/-- The body table's row at a point. -/
theorem defs₀_row (t : Fin cfg0.N) : defs₀ (F := Ideal) .tc cfg0.body (cfg0.bodyArgs t (cfg0.slots t)) = bodyAt0 t := by
  unfold defs₀; rw [Defs.onTc_tc]

/-- The body obligation of the pipeline. -/
theorem body_obligation (hs : ∀ c : Dev nD, Seg.Sorted (m ((c : Thread nD τ).loc main_arg1))) (c : Dev nD) :
    BodyObligation (dats m 0 c) (defs₀ (F := Ideal)) Variants.none () Set.univ := fun t => by
  rw [bigSep_W0, bigSep_W0, defs₀_row]
  exact triple_restated (sound_body m hs c t) rfl .rfl fun _ => .rfl

-- the implicit arguments are found by unifying the conclusion with this one, which takes unfolding plain definitions in
-- the type of a metavariable
set_option backward.isDefEq.respectTransparency.types false in
set_option maxHeartbeats 800000 in
/-- The launch: what every array holds when it has ended, every semaphore counter at zero. -/
theorem run_main (hs : ∀ c : Dev nD, Seg.Sorted (m ((c : Thread nD τ).loc main_arg1))) :
    θ_run defs (onTc (τ := τ) (main (F := Ideal))) (s₀ m ρ) (fun r =>
      Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m hs c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

end Cert.KernelIdeal.Own

end
-- ==== Proof.Pooled.lean ====
/- The problem's result: for each of 256 segments, the maximum and the mean of every feature over the segment's rows. -/
module

public import proofs.«01_k».proof.Proof.Spec

@[expose] public section

noncomputable section

namespace Cert.Seg

open Idealize.ShloMosaic

/-- Segment `s` of `n` rows with segment numbers `w` and features `a`: in the first 512 columns the maxima, −∞ with no row;
    in the others the means, a segment of no row counted as of one. -/
def pooled (w : ℕ → ℕ) (a : Fin 512 → ℕ → EReal) (n : ℕ) : FVec Ideal ⟨2, ![256, 1024]⟩ .f32 := fun j =>
  if h : (j 1).val < 512 then upMax w (a ⟨(j 1).val, h⟩) n (j 0).val
  else Ideal.div (upSum w (a ⟨(j 1).val - 512, Nat.sub_lt_left_of_lt_add (Nat.le_of_not_lt h) (j 1).isLt⟩) n (j 0).val)
    (max (upSum w (fun _ => 1) n (j 0).val) 1)

theorem pooled_max (w : ℕ → ℕ) (a : Fin 512 → ℕ → EReal) (n : ℕ) (s : Fin 256) (d : Fin 1024) (h : d.val < 512) :
    pooled w a n (ix2 s d) = upMax w (a ⟨d.val, h⟩) n s.val := dif_pos h

theorem pooled_mean (w : ℕ → ℕ) (a : Fin 512 → ℕ → EReal) (n : ℕ) (s : Fin 256) (d : Fin 1024) (h : ¬ d.val < 512) :
    pooled w a n (ix2 s d) = Ideal.div (upSum w (a ⟨d.val - 512, by omega⟩) n s.val) (max (upSum w (fun _ => 1) n s.val) 1) := dif_neg h

end Cert.Seg

end
-- ==== Proof.IdealValue.lean ====
/- The idealized kernel's result, as a function of the arguments: for each segment the maxima and the means of its rows'
   gated features. -/
module

public import proofs.«01_k».proof.Proof.IdealFrame
public import proofs.«01_k».proof.Proof.Pooled

@[expose] public section

set_option maxRecDepth 16384

noncomputable section

namespace Cert.KernelIdeal.Own

open Idealize.ShloMosaic Idealize.ShloMosaic.TcCoe Idealize.ShloMosaic.Tactic
open Idealize.SL.Sem
open Idealize.ShloMosaic.Pipeline (Dat Cfg Window)
open Cert.KernelIdeal.Gen Cert.Seg

variable (m : (ℓ : Loc nD τ sig) → Buf (Elt Ideal) ℓ) (ρ : Dev nD → PrngReg)

/-- The last point. -/
abbrev last : Fin cfg0.N := ⟨97, by rw [show cfg0.N = 98 from N_0]; decide⟩

theorem eq_last {t : Fin cfg0.N} (h : t.val % 98 = 97) : t = last := by
  have ht : t.val < 98 := Nat.lt_of_lt_of_eq t.isLt N_0
  exact Fin.ext (show t.val = 97 by omega)

/-- What the first two results' buffers hold after a point. -/
theorem after_6 (c : Dev nD) (t : Fin cfg0.N) : (dats m 0 c).after 6 t = accMax m c t.val := by dsimp only [dats]
theorem after_7 (c : Dev nD) (t : Fin cfg0.N) : (dats m 0 c).after 7 t = outSum m c t.val := by dsimp only [dats]

/-- The maxima's array ends as the accumulator after the last point; -/
theorem final_max (c : Dev nD) : (dats m 0 c).arrAt 6 cfg0.N = accMax m c 97 :=
  (dats m 0 c).arrAt_eq_of_cover 6 (accMax m c (last).val)
    (fun t hf => by
      obtain rfl := eq_last ((flush0_6 t).mp hf)
      show (cfg0.win 6).cut (grid0.coords last) ((dats m 0 c).after 6 last) = _
      rw [after_6]
      generalize accMax m c (last).val = X
      exact (Memref.read_access_unit_zero (Elt Ideal) main_v10_0 (funext fun a => by fin_cases a <;> rfl) _ X).symm)
    fun i => ⟨last, (flush0_6 last).mpr rfl, by
      show i ∈ ((View.whole main_v10_0).slice (win0_6.rect last)).set
      rw [View.set_slice_whole, Rect.mem_set_unit]
      intro a
      have h0 : (i 0 : Nat) < 264 := (i 0).isLt
      have h1 : (i 1 : Nat) < 512 := (i 1).isLt
      match a with
      | ⟨0, _⟩ => exact ⟨Nat.zero_le _, h0⟩
      | ⟨1, _⟩ => exact ⟨Nat.zero_le _, h1⟩⟩

/-- the sums' array as the means. -/
theorem final_sum (c : Dev nD) : (dats m 0 c).arrAt 7 cfg0.N = outSum m c 97 :=
  (dats m 0 c).arrAt_eq_of_cover 7 (outSum m c (last).val)
    (fun t hf => by
      obtain rfl := eq_last ((flush0_7 t).mp hf)
      show (cfg0.win 7).cut (grid0.coords last) ((dats m 0 c).after 7 last) = _
      rw [after_7]
      generalize outSum m c (last).val = X
      exact (Memref.read_access_unit_zero (Elt Ideal) main_v10_1 (funext fun a => by fin_cases a <;> rfl) _ X).symm)
    fun i => ⟨last, (flush0_7 last).mpr rfl, by
      show i ∈ ((View.whole main_v10_1).slice (win0_7.rect last)).set
      rw [View.set_slice_whole, Rect.mem_set_unit]
      intro a
      have h0 : (i 0 : Nat) < 264 := (i 0).isLt
      have h1 : (i 1 : Nat) < 512 := (i 1).isLt
      match a with
      | ⟨0, _⟩ => exact ⟨Nat.zero_le _, h0⟩
      | ⟨1, _⟩ => exact ⟨Nat.zero_le _, h1⟩⟩

/-- The result: the maxima and the means, side by side, of the 100000 rows. -/
abbrev result (c : Dev nD) : FVec Ideal S256x1024 .f32 := pooled (seg m c) (feat m c) 100000

/-- The result's buffer after the host's last lines, in terms of the two arrays. -/
theorem tail_eq (c : Dev nD) : (Pipeline.afterTail₀ cfgs (dats m) 0 (V0 m) [hostOps1] c main_v13 : FVec Ideal S256x1024 .f32)
    = concatenate S256x1024 1 [⟨S256x512, extractStridedSlice S256x512 ![0, 0] (accMax m c 97) slices_S264x512_S256x512_0_0⟩,
        ⟨S256x512, extractStridedSlice S256x512 ![0, 0] (outSum m c 97) slices_S264x512_S256x512_0_0⟩] concatenates_S256x512_S256x512_S256x1024_d1 := by
  rw [← final_max m c, ← final_sum m c]
  unfold Pipeline.afterTail₀
  simp only [List.flatten_cons, List.flatten_nil, List.append_nil]
  have e6 := Pipeline.withArrays_arr spec0 launch0.win.arr_inj c (V0 m c) (fun w => (dats m 0 c).arrAt w cfg0.N) 6
  have e7 := Pipeline.withArrays_arr spec0 launch0.win.arr_inj c (V0 m c) (fun w => (dats m 0 c).arrAt w cfg0.N) 7
  rw [← e6, ← e7]
  after_results

/-- The padded rows belong to none of the 256 segments. -/
theorem pad_ne (c : Dev nD) (s : Fin 256) (r : ℕ) (h : 100000 ≤ r) : seg m c r ≠ s.val := by
  unfold seg Seg.word
  rw [dif_neg (by omega)]
  show 256 ≠ s.val
  omega

/-- 98 blocks of 1024 rows are the 100000 rows and 352 of padding. -/
theorem rows_split : 1024 * (97 + 1) = 100000 + 352 := by norm_num

/-- The maxima after the last point are over the 100000 rows; -/
theorem accMax_last (c : Dev nD) (s : Fin 256) (d : Fin 512) (s' : Fin 264) (hs : s'.val = s.val) :
    accMax m c 97 (ix2 s' d) = upMax (seg m c) (feat m c d) 100000 s.val := by
  rw [accMax_apply, hs, rows_split, upMax_pad _ _ _ _ _ (pad_ne m c s)]

/-- so are the means. -/
theorem outSum_at_last (c : Dev nD) (s : Fin 256) (d : Fin 512) (s' : Fin 264) (hs : s'.val = s.val) : outSum m c 97 (ix2 s' d)
    = Ideal.div (upSum (seg m c) (feat m c d) 100000 s.val) (max (upSum (seg m c) (fun _ => 1) 100000 s.val) 1) := by
  rw [outSum_last, meanStep_apply, accSum_apply, accCnt_apply, hs, if_pos s.isLt, if_pos s.isLt, rows_split,
    upSum_pad _ _ _ _ _ (pad_ne m c s), upSum_pad _ _ _ _ _ (pad_ne m c s)]

/-- Two arrays side by side, each the first 256 rows of a taller one: the left half reads the first, -/
theorem beside_left (X Y : FVec Ideal S264x512 .f32) (s : Fin 256) (d : Fin 1024) (h : d.val < 512) :
    concatenate S256x1024 1 [⟨S256x512, extractStridedSlice S256x512 ![0, 0] X slices_S264x512_S256x512_0_0⟩,
        ⟨S256x512, extractStridedSlice S256x512 ![0, 0] Y slices_S264x512_S256x512_0_0⟩] concatenates_S256x512_S256x512_S256x1024_d1 (ix2 s d)
      = X (ix2 ⟨s.val, by omega⟩ ⟨d.val, h⟩) := by
  pointwise [dif_pos h]

/-- the right half the second. -/
theorem beside_right (X Y : FVec Ideal S264x512 .f32) (s : Fin 256) (d : Fin 1024) (h : ¬ d.val < 512) :
    concatenate S256x1024 1 [⟨S256x512, extractStridedSlice S256x512 ![0, 0] X slices_S264x512_S256x512_0_0⟩,
        ⟨S256x512, extractStridedSlice S256x512 ![0, 0] Y slices_S264x512_S256x512_0_0⟩] concatenates_S256x512_S256x512_S256x1024_d1 (ix2 s d)
      = Y (ix2 ⟨s.val, by omega⟩ ⟨d.val - 512, by omega⟩) := by
  pointwise [dif_neg h]

/-- The result's buffer ends as the result. -/
theorem tail_result (c : Dev nD) : (Pipeline.afterTail₀ cfgs (dats m) 0 (V0 m) [hostOps1] c main_v13 : FVec Ideal S256x1024 .f32) = result m c := by
  rw [tail_eq]
  unfold result
  funext j
  obtain ⟨s, d, rfl⟩ : ∃ (s : Fin 256) (d : Fin 1024), j = ix2 s d := ⟨j 0, j 1, eq_ix2 j⟩
  by_cases h : d.val < 512
  · rw [beside_left _ _ s d h, pooled_max _ _ _ s d h, accMax_last m c s _ _ rfl]
  · rw [beside_right _ _ s d h, pooled_mean _ _ _ s d h, outSum_at_last m c s _ _ rfl]

/-- The run, read: the result, and the arguments unchanged. -/
theorem run_value (hs : ∀ c : Dev nD, Seg.Sorted (m ((c : Thread nD τ).loc main_arg1))) :
    θ_run defs (onTc (τ := τ) (main (F := Ideal))) ⟨m, fun _ => 0, ρ⟩ (fun r => (∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_v13 (Pipeline.mem_restRefs_of main_v13 (by decide) (by decide))).trans (tail_result m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c)⟩,
    h.2⟩) (run_main m ρ hs)

end Cert.KernelIdeal.Own

end
-- ==== Proof.RefGate.lean ====
/- The reference's gated features: its host operations over the whole input, read at a row and a feature. -/
module

public import proofs.«01_k».proof.Proof.Gen.ReferenceIdeal
public import proofs.«01_k».proof.Proof.Row
public import Idealize.ShloMosaic.Lib.IdealHost

@[expose] public section

set_option maxRecDepth 16384

noncomputable section

namespace Cert.ReferenceIdeal.Own

open Idealize.ShloMosaic Idealize.ShloMosaic.Tactic
open Cert.ReferenceIdeal Cert.ReferenceIdeal.Gen Cert.Seg

/-- A linear layer over all rows. -/
def linear (x : FVec Ideal S100000x512 .f32) (w : FVec Ideal S512x512 .f32) (b : FVec Ideal S512 .f32) : FVec Ideal S100000x512 .f32 :=
  addf (Host.dotGeneral (F := Ideal) dot_S100000x512_S512x512_S100000x512_1_0_0_1_n_n none x
      (transpose S512x512 [1, 0] w transposes_S512x512_S512x512_1_0))
    (broadcastInDim S100000x512 ![0, 1] bcast_S1x512_S100000x512_0_1 (broadcastInDim S1x512 ![1] bcast_S512_S1x512_1 b))

/-- One number in every entry. -/
def everywhere (v : BitVec 32) : FVec Ideal S100000x512 .f32 := broadcastInDim S100000x512 ![] bcast_S_S100000x512 (constant S_ .f32 v)

/-- The first layer. -/
def hiddens (x : FVec Ideal S100000x512 .f32) (w : FVec Ideal S512x512 .f32) (b : FVec Ideal S512 .f32) : FVec Ideal S100000x512 .f32 :=
  maximumf (linear x w b) (everywhere 0x00000000#32)

/-- The gated features of all rows. -/
def gates (x : FVec Ideal S100000x512 .f32) (w1 : FVec Ideal S512x512 .f32) (b1 : FVec Ideal S512 .f32)
    (w2 : FVec Ideal S512x512 .f32) (b2 : FVec Ideal S512 .f32) : FVec Ideal S100000x512 .f32 :=
  mulf (hiddens x w1 b1) (Host.divf (everywhere 0x3F800000#32)
    (addf (everywhere 0x3F800000#32) (Host.exp (Host.negf (linear (hiddens x w1 b1) w2 b2)))))

/-- A linear layer at a row and a feature. -/
theorem linear_apply (x : FVec Ideal S100000x512 .f32) (w : FVec Ideal S512x512 .f32) (b : FVec Ideal S512 .f32)
    (r : Fin 100000) (d : Fin 512) : linear x w b (ix2 r d) = (∑ k, x (ix2 r k) * w (ix2 d k) + b (ix1 d) : EReal) := by
  pointwise [linear]

theorem everywhere_apply (v : BitVec 32) (r : Fin 100000) (d : Fin 512) : everywhere v (ix2 r d) = Ideal.ofBits .f32 v := rfl

/-- The first layer at a row and a feature. -/
theorem hiddens_apply (x : FVec Ideal S100000x512 .f32) (w1 : FVec Ideal S512x512 .f32) (b1 : FVec Ideal S512 .f32)
    (w2 : FVec Ideal S512x512 .f32) (b2 : FVec Ideal S512 .f32) (r : Fin 100000) (d : Fin 512) :
    hiddens x w1 b1 (ix2 r d) = hidden ⟨w1, b1, w2, b2⟩ (fun k => x (ix2 r k)) d := by
  show max (linear x w1 b1 (ix2 r d)) (everywhere 0x00000000#32 (ix2 r d)) = _
  rw [linear_apply, everywhere_apply, show Ideal.ofBits .f32 0x00000000#32 = (0 : EReal) from by simp [Ideal.ofBits, Ideal.ieee]]
  rfl

/-- The gated features at a row and a feature are the problem's. -/
theorem gates_apply (x : FVec Ideal S100000x512 .f32) (w1 : FVec Ideal S512x512 .f32) (b1 : FVec Ideal S512 .f32)
    (w2 : FVec Ideal S512x512 .f32) (b2 : FVec Ideal S512 .f32) (r : Fin 100000) (d : Fin 512) :
    gates x w1 b1 w2 b2 (ix2 r d) = gated ⟨w1, b1, w2, b2⟩ (fun k => x (ix2 r k)) d := by
  show (hiddens x w1 b1 (ix2 r d) * Ideal.div (everywhere 0x3F800000#32 (ix2 r d))
    (everywhere 0x3F800000#32 (ix2 r d) + Ideal.exp (-(linear (hiddens x w1 b1) w2 b2 (ix2 r d)))) : EReal) = _
  rw [linear_apply, everywhere_apply, Ideal.ofBits_one_f32]
  simp only [hiddens_apply x w1 b1 w2 b2]
  rfl

end Cert.ReferenceIdeal.Own

end
-- ==== Proof.ScatterRows.lean ====
/- Rows added into a table at the lines that a column of index words names, over the extended reals. -/
module

public import Idealize.ShloMosaic.Lib.Routing.OpsPair
public import Idealize.ShloMosaic.Lib.Pointwise

@[expose] public section

noncomputable section

namespace Cert.Seg

open Idealize.ShloMosaic

variable {S N C : ℕ} (d : ScatterDims ⟨2, ![S, C]⟩ ⟨2, ![N, 1]⟩ ⟨2, ![N, C]⟩)

/-- The dimension numbers of such a scatter: update row `r` goes, column by column, to the line that word `r` names. -/
structure ByRow : Prop where
  update : d.updateWindowDims = [1]
  inserted : d.insertedWindowDims = [0]
  operand : d.scatterDimsToOperandDims = [0]
  vector : d.indexVectorDim = 1

variable {d}

/-- Entry `(r, c)` lands at `(s, e)` exactly when word `r`, read signed, is `s` and `c` is `e`. -/
theorem lands_row (h : ByRow d) (idx : IVec ⟨2, ![N, 1]⟩ 32) (r : Fin N) (c e : Fin C) (s : Fin S) :
    d.resultIdx? (ix2 r c) idx = some (ix2 s e) ↔ (idx (ix2 r 0)).toInt = (s.val : Int) ∧ c = e := by
  obtain ⟨uw, iw, sd, iv, wf⟩ := d
  obtain ⟨h1, h2, h3, h4⟩ := h
  dsimp only at h1 h2 h3 h4
  subst h1 h2 h3 h4
  rw [Routing.resultIdx?_eq_some]
  have s0 : (ScatterDims.mk (s := ⟨2, ![S, C]⟩) (si := ⟨2, ![N, 1]⟩) (u := ⟨2, ![N, C]⟩) [1] [0] [0] 1 wf).start (ix2 r c) idx 0
      = (idx (ix2 r 0)).toInt := by
    unfold ScatterDims.start
    rw [dif_pos (List.mem_singleton.2 rfl)]
    congr 2
    funext b
    match b with
    | ⟨0, _⟩ => rfl
    | ⟨1, _⟩ => rfl
  have s1 : (ScatterDims.mk (s := ⟨2, ![S, C]⟩) (si := ⟨2, ![N, 1]⟩) (u := ⟨2, ![N, C]⟩) [1] [0] [0] 1 wf).start (ix2 r c) idx 1 = 0 := rfl
  have w0 : (ScatterDims.mk (s := ⟨2, ![S, C]⟩) (si := ⟨2, ![N, 1]⟩) (u := ⟨2, ![N, C]⟩) [1] [0] [0] 1 wf).window (ix2 r c) 0 = 0 := rfl
  have w1 : (ScatterDims.mk (s := ⟨2, ![S, C]⟩) (si := ⟨2, ![N, 1]⟩) (u := ⟨2, ![N, C]⟩) [1] [0] [0] 1 wf).window (ix2 r c) 1 = c.val := rfl
  have e0 : ((ix2 s e : (⟨2, ![S, C]⟩ : Shape).Idx) 0).val = s.val := rfl
  have e1 : ((ix2 s e : (⟨2, ![S, C]⟩ : Shape).Idx) 1).val = e.val := rfl
  constructor
  · intro q
    have q0 := q 0
    have q1 := q 1
    rw [s0, w0, e0] at q0
    rw [s1, w1, e1] at q1
    exact ⟨by omega, Fin.ext (by omega)⟩
  · rintro ⟨q0, rfl⟩ a
    match a with
    | ⟨0, _⟩ => exact (congrArg₂ (· + ·) s0 (congrArg Nat.cast w0)).trans (by show (idx (ix2 r 0)).toInt + 0 = (s.val : Int); omega)
    | ⟨1, _⟩ => exact (congrArg₂ (· + ·) s1 (congrArg Nat.cast w1)).trans (by show (0 : Int) + (c.val : Int) = (c.val : Int); omega)

/-- The table after the additions, at an entry: what was there, and the sum of the rows whose word is its line. -/
theorem scatter_rows (h : ByRow d) (x : FVec Ideal ⟨2, ![S, C]⟩ .f32) (idx : IVec ⟨2, ![N, 1]⟩ 32)
    (upd : FVec Ideal ⟨2, ![N, C]⟩ .f32) (s : Fin S) (e : Fin C) :
    Host.scatterAdd (F := Ideal) d x idx upd (ix2 s e)
      = x (ix2 s e) + ∑ r : Fin N, if (idx (ix2 r 0)).toInt = (s.val : Int) then upd (ix2 r e) else (0 : EReal) := by
  show x (ix2 s e) + ∑ j ∈ Finset.univ.filter (fun j => d.resultIdx? j idx = some (ix2 s e)), upd j = _
  rw [← Finset.sum_filter]
  congr 1
  have lands : ∀ j : (⟨2, ![N, C]⟩ : Shape).Idx, d.resultIdx? j idx = some (ix2 s e) →
      (idx (ix2 (j 0) 0)).toInt = (s.val : Int) ∧ j = ix2 (j 0) e := fun j hj => by
    have q := (lands_row h idx (j 0) (j 1) e s).1 (by rw [← eq_ix2 j]; exact hj)
    exact ⟨q.1, (eq_ix2 j).trans (by rw [q.2]; rfl)⟩
  refine Finset.sum_nbij' (fun j => j 0) (fun r => ix2 r e) ?_ ?_ ?_ ?_ ?_
  · intro j hj
    exact Finset.mem_filter.2 ⟨Finset.mem_univ _, (lands j (Finset.mem_filter.1 hj).2).1⟩
  · intro r hr
    exact Finset.mem_filter.2 ⟨Finset.mem_univ _, (lands_row h idx r e e s).2 ⟨(Finset.mem_filter.1 hr).2, rfl⟩⟩
  · intro j hj
    exact (lands j (Finset.mem_filter.1 hj).2).2.symm
  · intro r hr
    rfl
  · intro j hj
    exact congrArg upd (lands j (Finset.mem_filter.1 hj).2).2

end Cert.Seg

end
-- ==== Proof.RefPool.lean ====
/- The reference's pooling of the rows' features, read at a segment and a feature: the maximum over all rows of the feature
   where the row is of the segment and −∞ elsewhere, and the mean as a quotient of sums scattered by segment number. -/
module

public import proofs.«01_k».proof.Proof.Gen.ReferenceIdeal
public import proofs.«01_k».proof.Proof.ScatterRows
public import proofs.«01_k».proof.Proof.Spec
public import Idealize.ShloMosaic.Lib.IdealHost

@[expose] public section

set_option maxRecDepth 16384

noncomputable section

namespace Cert.ReferenceIdeal.Own

open Idealize.ShloMosaic Idealize.ShloMosaic.Tactic
open Cert.ReferenceIdeal Cert.ReferenceIdeal.Gen Cert.Seg

/-- For every row and segment, whether the row is of the segment. -/
def ofSegment (b : IVec S100000 32) : IVec S100000x256 1 :=
  cmpi .eq (broadcastInDim S100000x256 ![0, 1] bcast_S100000x1_S100000x256_0_1 (broadcastInDim S100000x1 ![0] bcast_S100000_S100000x1_0 b))
    (broadcastInDim S100000x256 ![0, 1] bcast_S1x256_S100000x256_0_1 (broadcastInDim S1x256 ![1] bcast_S256_S1x256_1 (iotaInDim S256 32 0)))

/-- For every row, segment and feature: the row's feature if the row is of the segment, and −∞ if not. -/
def masked (b : IVec S100000 32) (g : FVec Ideal S100000x512 .f32) : FVec Ideal S100000x256x512 .f32 :=
  select (broadcastInDim S100000x256x512 ![0, 1, 2] bcast_S100000x256x1_S100000x256x512_0_1_2
      (broadcastInDim S100000x256x1 ![0, 1] bcast_S100000x256_S100000x256x1_0_1 (ofSegment b)))
    (broadcastInDim S100000x256x512 ![0, 1, 2] bcast_S100000x1x512_S100000x256x512_0_1_2
      (broadcastInDim S100000x1x512 ![0, 2] bcast_S100000x512_S100000x1x512_0_2 g))
    (broadcastInDim S100000x256x512 ![] bcast_S_S100000x256x512 (id (constant S_ .f32 0xFF800000#32)))

/-- The maxima. -/
def maxima (b : IVec S100000 32) (g : FVec Ideal S100000x512 .f32) : FVec Ideal S256x512 .f32 :=
  Host.reduce FloatOps.maximumf (masked b g) (constant S_ .f32 0xFF800000#32) reducesTo_S100000x256x512_S256x512_d0 h_S_

/-- The sums, -/
def sums (b : IVec S100000 32) (g : FVec Ideal S100000x512 .f32) : FVec Ideal S256x512 .f32 :=
  Host.scatterAdd scatter_S256x512_S100000x1_S100000x512_1_0_0_1 (broadcastInDim S256x512 ![] bcast_S_S256x512 (constant S_ .f32 0x00000000#32))
    (broadcastInDim S100000x1 ![0] bcast_S100000_S100000x1_0 b) g

/-- the numbers of rows -/
def counts (b : IVec S100000 32) : FVec Ideal S256x1 .f32 :=
  Host.scatterAdd scatter_S256x1_S100000x1_S100000x1_1_0_0_1 (broadcastInDim S256x1 ![] bcast_S_S256x1 (constant S_ .f32 0x00000000#32))
    (broadcastInDim S100000x1 ![0] bcast_S100000_S100000x1_0 b)
    (broadcastInDim S100000x1 ![] bcast_S_S100000x1 (constant S_ .f32 0x3F800000#32))

/-- and the means. -/
def means (b : IVec S100000 32) (g : FVec Ideal S100000x512 .f32) : FVec Ideal S256x512 .f32 :=
  Host.divf (sums b g) (broadcastInDim S256x512 ![0, 1] bcast_S256x1_S256x512_0_1
    (maximumf (counts b) (broadcastInDim S256x1 ![] bcast_S_S256x1 (constant S_ .f32 0x3F800000#32))))

theorem masked_apply (b : IVec S100000 32) (g : FVec Ideal S100000x512 .f32) (r : Fin 100000) (s : Fin 256) (d : Fin 512) :
    masked b g (ix3 r s d)
      = Scalar.select (IntOp.cmpi .eq (b (ix1 r)) (BitVec.ofNat 32 s.val)) (g (ix2 r d)) (Ideal.ofBits .f32 0xFF800000#32) := by
  pointwise [masked, ofSegment]
  rfl

/-- The index words of the scatters are the segment numbers. -/
theorem column (b : IVec S100000 32) (r : Fin 100000) :
    broadcastInDim S100000x1 ![0] bcast_S100000_S100000x1_0 b (ix2 r 0) = b (ix1 r) := by
  pointwise

theorem reduces : S100000x256x512.Reduces [0] S256x512 := by decide

/-- An entry of the maxima is its segment's maximum. -/
theorem maxima_apply (b : IVec S100000 32) (g : FVec Ideal S100000x512 .f32) (s : Fin 256) (d : Fin 512) :
    maxima b g (ix2 s d) = segMax (fun r : Fin 100000 => (b (ix1 r)).toNat) (fun r => g (ix2 r d)) s.val := by
  have hs : (BitVec.ofNat 32 s.val).toNat = s.val := by
    rw [BitVec.toNat_ofNat]
    exact Nat.mod_eq_of_lt (by omega)
  have lift : ∀ r : Fin 100000, reduces.lift (ix2 s d) r = ix3 r s d := fun r => by
    funext a
    match a with
    | ⟨0, _⟩ => rfl
    | ⟨1, _⟩ => rfl
    | ⟨2, _⟩ => rfl
  have entry : ∀ r : Fin 100000, (masked b g ∘ reduces.lift (ix2 s d)) r
      = Scalar.select (IntOp.cmpi .eq (b (ix1 r)) (BitVec.ofNat 32 s.val)) (g (ix2 r d)) (⊥ : EReal) := fun r => by
    refine (congrArg (masked b g) (lift r)).trans ?_
    rw [masked_apply, neg_inf]
  unfold maxima
  generalize masked b g = M at *
  refine (Host.reduce_eq_fold_single (FloatOps.maximumf (F := Ideal) (φ := .f32)) M _ _ reduces h_S_ (ix2 s d)).trans ?_
  refine Eq.trans ?_ ((fold_select (fun r : Fin 100000 => b (ix1 r)) (fun r => g (ix2 r d)) (BitVec.ofNat 32 s.val)).trans (by rw [hs]))
  exact (Finset.fold_congr (fun r _ => entry r)).trans (congrArg (fun z => Finset.univ.fold max z _) neg_inf)

/-- A word below 2 ^ 31, read signed, is a number below 2 ^ 31 exactly when it is that number unsigned. -/
theorem toInt_eq_iff (w : BitVec 32) (s : ℕ) (h : w.toNat < 256) : w.toInt = (s : Int) ↔ w.toNat = s := by
  rw [BitVec.toInt_eq_toNat_of_lt (by omega)]
  exact Int.ofNat_inj

/-- An entry of the sums is its segment's sum; -/
theorem sums_apply (b : IVec S100000 32) (hb : ∀ r, (b (ix1 r)).toNat < 256) (g : FVec Ideal S100000x512 .f32) (s : Fin 256) (d : Fin 512) :
    sums b g (ix2 s d) = segSum (fun r : Fin 100000 => (b (ix1 r)).toNat) (fun r => g (ix2 r d)) s.val := by
  unfold sums segSum
  rw [scatter_rows ⟨rfl, rfl, rfl, rfl⟩]
  refine (congrArg₂ (· + ·) (show _ = (0 : EReal) from Ideal.ofBits_zero_f32) (Finset.sum_congr rfl fun r _ => ?_)).trans (zero_add _)
  rw [column]
  exact if_congr (toInt_eq_iff _ _ (hb r)) rfl rfl

/-- an entry of the counts is the sum of a 1 for each of its segment's rows. -/
theorem counts_apply (b : IVec S100000 32) (hb : ∀ r, (b (ix1 r)).toNat < 256) (s : Fin 256) :
    counts b (ix2 s 0) = segSum (fun r : Fin 100000 => (b (ix1 r)).toNat) (fun _ => 1) s.val := by
  unfold counts segSum
  rw [scatter_rows ⟨rfl, rfl, rfl, rfl⟩]
  refine (congrArg₂ (· + ·) (show _ = (0 : EReal) from Ideal.ofBits_zero_f32) (Finset.sum_congr rfl fun r _ => ?_)).trans (zero_add _)
  rw [column]
  exact if_congr (toInt_eq_iff _ _ (hb r)) Ideal.ofBits_one_f32 rfl

/-- An entry of the means is the quotient of the two, a count below 1 taken as 1. -/
theorem means_apply (b : IVec S100000 32) (hb : ∀ r, (b (ix1 r)).toNat < 256) (g : FVec Ideal S100000x512 .f32) (s : Fin 256) (d : Fin 512) :
    means b g (ix2 s d) = Ideal.div (segSum (fun r : Fin 100000 => (b (ix1 r)).toNat) (fun r => g (ix2 r d)) s.val)
      (max (segSum (fun r : Fin 100000 => (b (ix1 r)).toNat) (fun _ => 1) s.val) 1) := by
  have read : means b g (ix2 s d) = Ideal.div (sums b g (ix2 s d)) (max (counts b (ix2 s 0)) (Ideal.ofBits .f32 0x3F800000#32)) := by
    unfold means
    generalize sums b g = X
    generalize counts b = Y
    pointwise
  rw [read, sums_apply b hb, counts_apply b hb, Ideal.ofBits_one_f32]

end Cert.ReferenceIdeal.Own

end
-- ==== Proof.RefValue.lean ====
/- The reference's result, as a function of the arguments: for each segment the maxima and the means of its rows' gated
   features. -/
module

public import proofs.«01_k».proof.Proof.Gen.ReferenceIdeal.Run
public import proofs.«01_k».proof.Proof.RefGate
public import proofs.«01_k».proof.Proof.RefPool
public import proofs.«01_k».proof.Proof.Pooled
public import proofs.«01_k».proof.Proof.Pre

@[expose] public section

set_option maxRecDepth 16384

noncomputable section

namespace Cert.ReferenceIdeal.Own

open Idealize.ShloMosaic Idealize.ShloMosaic.TcCoe Idealize.ShloMosaic.Tactic
open Cert.ReferenceIdeal Cert.ReferenceIdeal.Gen Cert.Seg

/-- Two arrays side by side: the left half reads the first, -/
theorem beside_left (X Y : FVec Ideal S256x512 .f32) (s : Fin 256) (d : Fin 1024) (h : d.val < 512) :
    concatenate S256x1024 1 [⟨S256x512, X⟩, ⟨S256x512, Y⟩] concatenates_S256x512_S256x512_S256x1024_d1 (ix2 s d) = X (ix2 s ⟨d.val, h⟩) := by
  pointwise [dif_pos h]

/-- the right half the second. -/
theorem beside_right (X Y : FVec Ideal S256x512 .f32) (s : Fin 256) (d : Fin 1024) (h : ¬ d.val < 512) :
    concatenate S256x1024 1 [⟨S256x512, X⟩, ⟨S256x512, Y⟩] concatenates_S256x512_S256x512_S256x1024_d1 (ix2 s d)
      = Y (ix2 s ⟨d.val - 512, by omega⟩) := by
  pointwise [dif_neg h]

/-- The maxima beside the means of given features are the problem's result for those features. -/
theorem pooled_eq (b : IVec S100000 32) (hb : Sorted b) (g : FVec Ideal S100000x512 .f32) (a : Fin 512 → ℕ → EReal)
    (ha : ∀ (r : Fin 100000) (d : Fin 512), g (ix2 r d) = a d r.val) :
    concatenate S256x1024 1 [⟨S256x512, maxima b g⟩, ⟨S256x512, means b g⟩] concatenates_S256x512_S256x512_S256x1024_d1
      = pooled (fun n => (word b n).toNat) a 100000 := by
  have hw : (fun r : Fin 100000 => (b (ix1 r)).toNat) = fun r => (word b r.val).toNat :=
    funext fun r => congrArg BitVec.toNat (dif_pos r.isLt : word b r.val = _).symm
  funext j
  obtain ⟨s, d, rfl⟩ : ∃ (s : Fin 256) (d : Fin 1024), j = ix2 s d := ⟨j 0, j 1, eq_ix2 j⟩
  by_cases h : d.val < 512
  · rw [beside_left _ _ s d h, pooled_max _ _ _ s d h, maxima_apply, hw]
    simp only [ha]
    rfl
  · rw [beside_right _ _ s d h, pooled_mean _ _ _ s d h, means_apply b hb.1, hw]
    simp only [ha]
    rfl

/-- The reference's composed term is the problem's result. -/
theorem value (m : (ℓ : Loc nD τ sig) → Buf (Elt Ideal) ℓ) (c : Dev nD) (hb : Sorted (m ((c.tc : Thread nD τ).loc main_arg1))) :
    Value.res_main_v40 m c
      = pooled (fun n => (word (m ((c.tc : Thread nD τ).loc main_arg1)) n).toNat)
        (fun d n => gated ⟨m ((c.tc : Thread nD τ).loc main_arg2), m ((c.tc : Thread nD τ).loc main_arg3),
          m ((c.tc : Thread nD τ).loc main_arg4), m ((c.tc : Thread nD τ).loc main_arg5)⟩ (row (m ((c.tc : Thread nD τ).loc main_arg0)) n) d)
        100000 := by
  refine Eq.trans (show _ = concatenate S256x1024 1
      [⟨S256x512, maxima (m ((c.tc : Thread nD τ).loc main_arg1)) (gates (m ((c.tc : Thread nD τ).loc main_arg0))
        (m ((c.tc : Thread nD τ).loc main_arg2)) (m ((c.tc : Thread nD τ).loc main_arg3))
        (m ((c.tc : Thread nD τ).loc main_arg4)) (m ((c.tc : Thread nD τ).loc main_arg5)))⟩,
      ⟨S256x512, means (m ((c.tc : Thread nD τ).loc main_arg1)) (gates (m ((c.tc : Thread nD τ).loc main_arg0))
        (m ((c.tc : Thread nD τ).loc main_arg2)) (m ((c.tc : Thread nD τ).loc main_arg3))
        (m ((c.tc : Thread nD τ).loc main_arg4)) (m ((c.tc : Thread nD τ).loc main_arg5)))⟩]
      concatenates_S256x512_S256x512_S256x1024_d1 from rfl) ?_
  refine pooled_eq _ hb _ _ fun r d => (gates_apply _ _ _ _ _ r d).trans ?_
  refine congrArg (fun x => gated _ x d) (funext fun k => ?_)
  exact (dif_pos r.isLt : row _ r.val k = _).symm

end Cert.ReferenceIdeal.Own

end
-- ==== Proof.Claims.lean ====
/- The claims, one theorem each: the runs of the three programs, and the equality of the idealized kernel's result and the
   reference's. -/
module

public import proofs.«01_k».proof.Defs
public import proofs.«01_k».proof.Proof.KernelFrame
public import proofs.«01_k».proof.Proof.IdealValue
public import proofs.«01_k».proof.Proof.RefValue
public import proofs.«01_k».proof.Proof.Gen.Pre_sorted_segments
public import Idealize.ShloMosaic.Adequacy
public import Idealize.ShloMosaic.Init

@[expose] public section

noncomputable section

namespace Cert.Proof

open Idealize.ShloMosaic Idealize.ShloMosaic.TcCoe Idealize.SL.Sem

/-- From sorted segment numbers the kernel runs to its end, its arguments unchanged and its counters at 0. -/
theorem frame_kernel : Cert.quiescent_Kernel := fun m g hpre =>
  Cert.Kernel.Own.frame m g fun c => Seg.sorted_of_pre _ _ _ _ _ _ (hpre c)

/-- The idealized kernel's segment numbers under the precondition. -/
theorem sorted (m : (ℓ : Loc Cert.KernelIdeal.nD Cert.KernelIdeal.τ Cert.KernelIdeal.sig) → Buf (Elt Ideal) ℓ) (hpre : Cert.Pre_KernelIdeal m)
    (c : Dev Cert.KernelIdeal.nD) : Seg.Sorted (m ((c : Thread Cert.KernelIdeal.nD Cert.KernelIdeal.τ).loc Cert.KernelIdeal.main_arg1)) :=
  Seg.sorted_of_pre _ _ _ _ _ _ (hpre c)

/-- So does the idealized kernel; -/
theorem frame_ideal : Cert.quiescent_KernelIdeal := fun m g hpre =>
  (θ_run Cert.KernelIdeal.defs _ _).mono (fun _ h => ⟨fun c => (h.1 c).2, h.2⟩) (Cert.KernelIdeal.Own.run_value m g (sorted m hpre))

/-- and the reference, from any arguments, -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- those of the precondition among them. -/
theorem frame_reference_pre : Cert.quiescent_ReferenceIdeal_pre_sorted_segments := fun m g _ => frame_reference m g trivial

/-- The idealization replaces no operation. -/
theorem preserves : Cert.preserves_Kernel_KernelIdeal := trivial

/-- From equal arguments with sorted segment numbers the idealized kernel and the reference end at one result: the maxima
    and the means of the segments' gated features. -/
theorem algebraic : Cert.algebraic_KernelIdeal_ReferenceIdeal := by
  intro m g m' g' hpre hagree
  refine ⟨fun c => Cert.KernelIdeal.Own.result m c,
    (θ_run Cert.KernelIdeal.defs _ _).mono (fun _ h => h.1) (Cert.KernelIdeal.Own.run_value m g (sorted m hpre)), ?_⟩
  refine (θ_run Cert.ReferenceIdeal.defs _ _).mono (fun _ h c => ⟨(h c).1.trans ?_, (h c).2⟩) (Cert.ReferenceIdeal.Value.run (F := Ideal) m' g')
  obtain ⟨e0, e1, e2, e3, e4, e5⟩ := hagree c
  refine (Cert.ReferenceIdeal.Own.value m' c (by rw [e1]; exact sorted m hpre c)).trans ?_
  rw [e0, e1, e2, e3, e4, e5]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sorted_segments
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_sorted_segments.Gen.facts,
  frame_kernel, frame_ideal, frame_reference, frame_reference_pre, preserves, algebraic⟩

end Cert.Proof

end
